-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "recip" .f32 0x3727C5AC#32 ((100000⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S6400000 : Shape := ⟨1, ![6400000]⟩
abbrev S_ : Shape := ⟨0, ![]⟩

class Facts : Prop where
  bcast_S_S6400000 : S_.BroadcastsInDim S6400000 (![] : Fin 0 → Fin S6400000.rank)
  reducesTo_S6400000_S_d0 : S6400000.ReducesTo [0] S_
  h_S_ : 0 < S_.numel

variable [Facts]

def fn {F : FTy → Type} [FloatOps F] (main_arg0 : FVec F S6400000 .f32) (main_arg1 : FVec F S6400000 .f32) (main_arg2 : IVec S6400000 32) : IVec S_ 1 :=
  let main_c : IVec S_ 32 := constantI S_ 32 0#32
  let main_v0 : IVec S6400000 32 := broadcastInDim S6400000 ![] bcast_S_S6400000 main_c
  let main_v1 : IVec S6400000 1 := cmpi .sge main_arg2 main_v0
  let main_c_0 : IVec S_ 32 := constantI S_ 32 100000#32
  let main_v2 : IVec S6400000 32 := broadcastInDim S6400000 ![] bcast_S_S6400000 main_c_0
  let main_v3 : IVec S6400000 1 := cmpi .slt main_arg2 main_v2
  let main_v4 : IVec S6400000 1 := andi main_v1 main_v3
  let main_c_1 : IVec S_ 1 := constantI S_ 1 1#1
  let main_v5 : IVec S_ 1 := (fun x v => Host.reduce IntOp.andi x v reducesTo_S6400000_S_d0 h_S_) main_v4 main_c_1
  main_v5
-- ==== Kernel.lean ====
abbrev S6400000 : Shape := ⟨1, ![6400000]⟩
abbrev S32x16 : Shape := ⟨2, ![32, 16]⟩
abbrev S20000 : Shape := ⟨1, ![20000]⟩
abbrev S16 : Shape := ⟨1, ![16]⟩
abbrev S_ : Shape := ⟨0, ![]⟩
abbrev S1x16 : Shape := ⟨2, ![1, 16]⟩
abbrev S1x1 : Shape := ⟨2, ![1, 1]⟩
abbrev S1x32x16 : Shape := ⟨3, ![1, 32, 16]⟩
abbrev S1 : Shape := ⟨1, ![1]⟩
abbrev S1x1x1 : Shape := ⟨3, ![1, 1, 1]⟩

abbrev nBuf : Table → Nat
  | .hbm => 6
  | .local .tc .vmem => 1
  | .local .tc .smem => 1
  | .local .scVector .vmem => 3
  | _ => 0

abbrev bufTy : (tb : Table) → Fin (nBuf tb) → BufTy
  | .hbm, ⟨0, _⟩ => ⟨S6400000, .f32⟩
  | .hbm, ⟨1, _⟩ => ⟨S6400000, .f32⟩
  | .hbm, ⟨2, _⟩ => ⟨S6400000, .i32⟩
  | .hbm, ⟨3, _⟩ => ⟨S32x16, .f32⟩
  | .hbm, ⟨4, _⟩ => ⟨S1x1, .f32⟩
  | .hbm, ⟨5, _⟩ => ⟨S_, .f32⟩
  | .local .tc .vmem, ⟨0, _⟩ => ⟨S32x16, .f32⟩
  | .local .tc .smem, ⟨0, _⟩ => ⟨S1x1, .f32⟩
  | .local .scVector .vmem, ⟨0, _⟩ => ⟨S20000, .f32⟩
  | .local .scVector .vmem, ⟨1, _⟩ => ⟨S20000, .f32⟩
  | .local .scVector .vmem, ⟨2, _⟩ => ⟨S16, .f32⟩
  | _, _ => ⟨S6400000, .f32⟩

abbrev bufScoped : (cs : CoreSpace) → Fin (nBuf (.local .tc cs)) → Bool
  | .vmem, ⟨0, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => true
  | ⟨4, _⟩ => true
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev cc1_stg0_0 : Ref sig .tc := ⟨.vmem, 0, rfl⟩
abbrev cc1_stg1_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c10_i32 : BitVec 32 := 10#32
  let v4 : BitVec 32 := Scalar.addi c0_i32 c10_i32
  let c1_i32 : BitVec 32 := 1#32
  ⟨c0_i32, v4, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v2 : BitVec 32 := Scalar.muli v1 c200000_i32
  let c0_i32 : BitVec 32 := 0#32
  let c1_i32 : BitVec 32 := 1#32
  let arg8 : BitVec 32 := Scf.iv c0_i32 c1_i32 k0_t1
  let c20000_i32 : BitVec 32 := 20000#32
  let v9 : BitVec 32 := Scalar.muli arg8 c20000_i32
  let v10 : BitVec 32 := Scalar.addi v2 v9
  ![v10.toNat]
@[reducible] def k0_t2_loop : Scf.Loop 32 :=
  let c0_i32_1 : BitVec 32 := 0#32
  let c1250_i32 : BitVec 32 := 1250#32
  let v11 : BitVec 32 := Scalar.addi c0_i32_1 c1250_i32
  let c1_i32_2 : BitVec 32 := 1#32
  ⟨c0_i32_1, v11, c1_i32_2⟩
def k0_off2 (k0_t2 : Fin k0_t2_loop.trips) : Fin 1 → Nat :=
  let c0_i32_1 : BitVec 32 := 0#32
  let c1_i32_2 : BitVec 32 := 1#32
  let arg10 : BitVec 32 := Scf.iv c0_i32_1 c1_i32_2 k0_t2
  let c16_i32 : BitVec 32 := 16#32
  let v13 : BitVec 32 := Scalar.muli arg10 c16_i32
  let v14 : Index := Scalar.indexCast v13
  ![v14.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r2 : BitVec 32 := 0#32
  ![v1.toNat, 0]
abbrev grid1 : Pipeline.Grid := .none

abbrev stage1_0 : Fin 1 → Memref sig .tc .vmem S32x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "recip" => some ((100000⁻¹ : ℝ) : EReal)
  | _ => none
-- ==== ReferenceIdeal.lean ====
abbrev S6400000 : Shape := ⟨1, ![6400000]⟩
abbrev S_ : Shape := ⟨0, ![]⟩
abbrev S100000 : Shape := ⟨1, ![100000]⟩
abbrev S6400000x1 : Shape := ⟨2, ![6400000, 1]⟩

abbrev nBuf : Space → Nat
  | .hbm => 13
  | .vmem => 0
  | .smem => 0
  | _ => 0

abbrev bufTy : (tb : Table) → Fin (tcTables nBuf tb) → BufTy
  | .hbm, ⟨0, _⟩ => ⟨S6400000, .f32⟩
  | .hbm, ⟨1, _⟩ => ⟨S6400000, .f32⟩
  | .hbm, ⟨2, _⟩ => ⟨S6400000, .i32⟩
  | .hbm, ⟨3, _⟩ => ⟨S6400000, .f32⟩
  | .hbm, ⟨4, _⟩ => ⟨S6400000, .f32⟩
  | .hbm, ⟨5, _⟩ => ⟨S_, .f32⟩
  | .hbm, ⟨6, _⟩ => ⟨S100000, .f32⟩
  | .hbm, ⟨7, _⟩ => ⟨S6400000x1, .i32⟩
  | .hbm, ⟨8, _⟩ => ⟨S100000, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S6400000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.Setup.lean ====
/-
  The program as the launch theorem sees it, and what travels between its threads.

  The program has one SparseCore call: on each of the two SparseCores, sixteen tiles each add up the squared
  differences of their 200000 positions of the two argument arrays, ten slabs of 20000 at a time, sixteen lanes at a time,
  and write the sixteen lane sums to their own row of a 32 × 16 array.  A TensorCore kernel then adds all of that
  array and multiplies the sum by the constant `recip`.

  This module fixes the resource algebra, names the buffers, and defines the VALUES: what each loop carries
  after any number of trips (`slabLoop`, `tileLoop`), the row a tile writes, and the whole 32 × 16 array (`parts`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Transfers
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The launch's set-up -/

/-- The program's labels, the TensorCore kernel's among them. -/
abbrev ΛP : Labels := Pipeline.Sig Λ₀ (Fin 1) fun p => (pcfgs (F := F) p).Adm
/-- The program's SparseCore calls: one. -/
abbrev K : SparseCore.Cfg τ sig (ΛP (F := F)) 1 := sc (F := F)
/-- The program's bodies, before the SparseCores' own are put around them. -/
abbrev D : Defs nD τ sig (Elt F) (ΛP (F := F)) := Pipeline.defs pcfgs defs₀
/-- No loop here needs a variant. -/
abbrev 𝒱₀ : Variants := Variants.none
/-- The same, for the labels with the TensorCore kernel's. -/
abbrev 𝒱 : Variants := 𝒱₀.lift
/-- The start's variant: none. -/
abbrev v₀ : 𝒱.V := Sum.inl none

/-- The call runs on two SparseCores. -/
theorem nCore_zero : (K (F := F)).nCore 0 = 2 := rfl
/-- On each of them it runs on sixteen tiles. -/
theorem nSub_zero : (K (F := F)).nSub 0 = 16 := rfl

/-- The handshakes' semaphores are distinct and outlive each task, and no buffer is shared within a task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state has three parts; the first is the handshakes' rounds. -/
abbrev UH : Type := URounds (GSem nD τ sig) ℕ
/-- The rounds of the TensorCore kernel's staging. -/
abbrev UP : Type := Idealize.ShloMosaic.UR sig nD τ
/-- All three together: the handshakes' rounds, the staging rounds, the transfers' counters. -/
abbrev UU : Type := UH × (UP × Counters)

local notation "𝕄" => MT nD τ sig (HIx 1) (Elt F) ℕ UU ℕ

/-- Where the handshakes' component lies. -/
abbrev EH : Emb UH (MT nD τ sig (HIx 1) (Elt F) ℕ UU ℕ) := embL
/-- Where the pipeline's component lies. -/
def EP : Emb UP (MT nD τ sig (HIx 1) (Elt F) ℕ UU ℕ) := (Emb.inl : Emb UP (UP × Counters)).trans embR

/-- The pipeline's component is a part of the user's ghost state. -/
instance EP_landsIn : (EP (F := F)).LandsIn (upEmb : UEmb _ 𝕄) := by unfold EP; infer_instance

/-! ## The arrays -/

/-- The first argument, the predictions. -/
abbrev yLoc (d : Dev nD) : Loc nD τ sig := (SparseCore.T d).loc main_arg0
/-- The second argument, the targets. -/
abbrev gLoc (d : Dev nD) : Loc nD τ sig := (SparseCore.T d).loc main_arg1
/-- The third argument, the mixtures' indices, which the kernel never reads. -/
abbrev xLoc (d : Dev nD) : Loc nD τ sig := (SparseCore.T d).loc main_arg2
/-- The 32 × 16 array of lane sums. -/
abbrev pLoc (d : Dev nD) : Loc nD τ sig := (SparseCore.T d).loc main_v0
/-- The TensorCore kernel's 1 × 1 output. -/
abbrev sLoc (d : Dev nD) : Loc nD τ sig := (SparseCore.T d).loc main_v1
/-- The program's result. -/
abbrev rLoc (d : Dev nD) : Loc nD τ sig := (SparseCore.T d).loc main_v2

/-- The first argument, as a tile addresses it. -/
abbrev yM : Memref sig .scVector .hbm S6400000 .f32 := Memref.whole main_arg0_scv
/-- The second argument, as a tile addresses it. -/
abbrev gM : Memref sig .scVector .hbm S6400000 .f32 := Memref.whole main_arg1_scv
/-- The array of lane sums, as a tile addresses it. -/
abbrev pM : Memref sig .scVector .hbm S32x16 .f32 := Memref.whole main_v0_scv
/-- The tile's buffer for a slab of the first argument. -/
abbrev ybM : Memref sig .scVector .vmem S20000 .f32 := Memref.whole cc0_scratch0
/-- The tile's buffer for a slab of the second argument. -/
abbrev gbM : Memref sig .scVector .vmem S20000 .f32 := Memref.whole cc0_scratch1
/-- The tile's buffer for its lane sums. -/
abbrev abM : Memref sig .scVector .vmem S16 .f32 := Memref.whole cc0_scratch2

/-! ## The values -/

/-- What a counted loop of `n` trips carries after `k` of them, each trip `i` taking the carried value by `f i`. -/
def carried {σ : Type} {n : ℕ} (f : Fin n → σ → σ) (s : σ) : ℕ → σ
  | 0 => s
  | k + 1 => if h : k < n then f ⟨k, h⟩ (carried f s k) else carried f s k

omit [FloatOps F] [Named F] in
/-- Before the first trip. -/
theorem carried_zero {σ : Type} {n : ℕ} (f : Fin n → σ → σ) (s : σ) : carried f s 0 = s := by
  rw [carried]

omit [FloatOps F] [Named F] in
/-- One more trip. -/
theorem carried_succ {σ : Type} {n : ℕ} (f : Fin n → σ → σ) (s : σ) (k : Fin n) :
    carried f s (k.val + 1) = f k (carried f s k.val) := by
  rw [carried, dif_pos k.isLt]

attribute [irreducible] carried

/-- The slab of 20000 entries of the first argument that trip `k` of tile `L` copies in. -/
abbrev yslab (L : grid0.Coords) (k : Fin k0_t1_loop.trips) : Memref sig .scVector .hbm S20000 .f32 :=
  yM.slice (Rect.unit (s := S6400000) (k0_off1 L k) S20000.size (k0_off1_inb L k)) (fun _ => rfl)
/-- The same slab of the second argument. -/
abbrev gslab (L : grid0.Coords) (k : Fin k0_t1_loop.trips) : Memref sig .scVector .hbm S20000 .f32 :=
  gM.slice (Rect.unit (s := S6400000) (k0_off1 L k) S20000.size (k0_off1_inb L k)) (fun _ => rfl)

/-- The row of the 32 × 16 array that tile `L` writes, squeezed to its sixteen lanes. -/
abbrev rowM (L : grid0.Coords) : Memref sig .scVector .hbm S16 .f32 :=
  (pM.slice (Rect.unit (s := S32x16) (k0_off3 L) S1x16.size (k0_off3_inb L)) (fun _ => rfl)).squeeze S16 squeezes_S1x16_S16

/-- The sixteen entries of a copied slab that trip `t` loads. -/
def lanesAt (f : FVec F S20000 .f32) (t : Fin k0_t2_loop.trips) : FVec F S16 .f32 :=
  fun j => f ((Rect.unit (s := S20000) (k0_off2 t) S16.size (k0_off2_inb t)).emb j)

/-- The lane sums after `n` trips over the slabs `y` and `g`, from the sums `a`. -/
def slabLoop (y g : FVec F S20000 .f32) (a : FVec F S16 .f32) (n : ℕ) : FVec F S16 .f32 :=
  carried (n := k0_t2_loop.trips) (fun t acc => k0_pay2 acc (lanesAt y t) (lanesAt g t)) a n

/-- The lane sums of tile `L` after `n` slabs of the arrays `y` and `g`, from zero. -/
def tileLoop (y g : FVec F S6400000 .f32) (L : grid0.Coords) (n : ℕ) : FVec F S16 .f32 :=
  carried (n := k0_t1_loop.trips)
    (fun k acc => slabLoop ((yslab L k).view.read (Elt F) y) ((gslab L k).view.read (Elt F) g) acc k0_t2_loop.trips)
    k0_pay1 n

/-- Before a slab's first trip. -/
theorem slabLoop_zero (y g : FVec F S20000 .f32) (a : FVec F S16 .f32) : slabLoop y g a 0 = a := by
  rw [slabLoop, carried_zero]

/-- Before a tile's first slab. -/
theorem tileLoop_zero (y g : FVec F S6400000 .f32) (L : grid0.Coords) : tileLoop y g L 0 = k0_pay1 := by
  rw [tileLoop, carried_zero]

/-- One more trip of a slab. -/
theorem slabLoop_succ (y g : FVec F S20000 .f32) (a : FVec F S16 .f32) (t : Fin k0_t2_loop.trips) :
    slabLoop y g a (t.val + 1) = k0_pay2 (slabLoop y g a t.val) (lanesAt y t) (lanesAt g t) := by
  rw [slabLoop, carried_succ]; rfl

/-- One more slab of a tile. -/
theorem tileLoop_succ (y g : FVec F S6400000 .f32) (L : grid0.Coords) (k : Fin k0_t1_loop.trips) :
    tileLoop y g L (k.val + 1)
      = slabLoop ((yslab L k).view.read (Elt F) y) ((gslab L k).view.read (Elt F) g) (tileLoop y g L k.val) k0_t2_loop.trips := by
  rw [tileLoop, carried_succ]; rfl

end Cert.Proof

end
-- ==== Proof.Rows.lean ====
/-
The 32 × 16 array of partial sums by rows: which row each tile writes, that the rows of the thirty-two tiles are
disjoint and make up the array, and what the whole array holds once every tile has written its row.
-/
module

public import proofs.«01_k».proof.Proof.Setup

@[expose] public section

noncomputable section

namespace Cert.Proof

open Cert.KernelIdeal Cert.KernelIdeal.Gen

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The tile of SparseCore `c` and subcore `s`. -/
def tileAt (c : Fin 2) (s : Fin 16) : grid0.Coords :=
  fun | 0 => c | 1 => s | ⟨_ + 2, h⟩ => absurd h (Nat.not_lt.2 (Nat.le_add_left _ _))

omit [FloatOps F] [Named F] in
/-- A tile is the tile of its two coordinates. -/
theorem tileAt_self (L : grid0.Coords) : tileAt (L 0) (L 1) = L := by
  funext a
  match a with
  | 0 => rfl
  | 1 => rfl

/-- The elements of row `2 s + c`, the one that subcore `s` of SparseCore `c` writes. -/
def row (c : Fin 2) (s : Fin 16) : Finset S32x16.Idx := Finset.univ.filter fun x => (x 0).val = 2 * s.val + c.val

omit [FloatOps F] [Named F] in
/-- Where lane `j` of tile `L`'s row lies in the array: row and column. -/
theorem rowM_emb (L : grid0.Coords) (j : S16.Idx) :
    (((rowM L).view.emb j) 0).val = 2 * (L 1).val + (L 0).val ∧ (((rowM L).view.emb j) 1).val = (j 0).val := by
  have e : (rowM L).view.emb j
      = (Rect.unit (s := S32x16) (k0_off3 L) S1x16.size (k0_off3_inb L)).emb (Shape.reshapeEquiv squeezes_S1x16_S16.numel_eq j) := rfl
  have h : Shape.reshapeEquiv squeezes_S1x16_S16.numel_eq j = Fin.cons ⟨0, Nat.one_pos⟩ j :=
    Shape.reshapeEquiv_cons_one (d := ![16]) squeezes_S1x16_S16.numel_eq j
  rw [e, h]
  constructor
  · rw [Rect.emb_apply]
    show k0_off3 L 0 + 1 * 0 = _
    rw [k0_off3_eq]; simp
  · rw [Rect.emb_apply]
    show k0_off3 L 1 + 1 * (j 0).val = _
    rw [k0_off3_eq]; simp

omit [FloatOps F] [Named F] in
/-- What a tile writes is its row. -/
theorem set_rowM (L : grid0.Coords) : (rowM L).view.set = row (L 0) (L 1) := by
  ext x
  unfold row View.set
  rw [Finset.mem_map, Finset.mem_filter]
  constructor
  · rintro ⟨j, -, rfl⟩
    exact ⟨Finset.mem_univ _, (rowM_emb L j).1⟩
  · rintro ⟨-, hx⟩
    refine ⟨fun | 0 => ⟨(x 1).val, (x 1).isLt⟩, Finset.mem_univ _, ?_⟩
    funext a
    match a with
    | 0 => exact Fin.ext ((rowM_emb L _).1.trans hx.symm)
    | 1 => exact Fin.ext (rowM_emb L _).2

omit [FloatOps F] [Named F] in
/-- Different tiles write different rows. -/
theorem rows_disjoint : ∀ t ∈ (Finset.univ : Finset (Fin 2 × Fin 16)), ∀ t' ∈ (Finset.univ : Finset (Fin 2 × Fin 16)), t ≠ t' →
    Disjoint (row t.1 t.2) (row t'.1 t'.2) := by
  intro t _ t' _ h
  unfold row
  rw [Finset.disjoint_filter]
  intro x _ e e'
  apply h
  have h1 := t.1.isLt; have h2 := t'.1.isLt
  exact Prod.ext (Fin.ext (by omega)) (Fin.ext (by omega))

omit [FloatOps F] [Named F] in
/-- The rows make up the array. -/
theorem rows_cover : (Finset.univ : Finset (Fin 2 × Fin 16)).biUnion (fun t => row t.1 t.2) = Finset.univ := by
  ext x
  have hx : (x 0).val < 32 := (x 0).isLt
  simp only [Finset.mem_biUnion, Finset.mem_univ, true_and, iff_true, row, Finset.mem_filter]
  exact ⟨(⟨(x 0).val % 2, by omega⟩, ⟨(x 0).val / 2, by omega⟩), by show _ = 2 * ((x 0).val / 2) + (x 0).val % 2; omega⟩

/-- The array of partial sums: row `r` holds the sixteen lane sums of the tile `(r mod 2, r / 2)`. -/
def partsOf (y g : FVec F S6400000 .f32) : FVec F S32x16 .f32 := fun x =>
  k0_pay3 (tileLoop y g
    (tileAt ⟨(x 0).val % 2, Nat.mod_lt _ (by decide)⟩ ⟨(x 0).val / 2, by have h : (x 0).val < 32 := (x 0).isLt; omega⟩)
    k0_t1_loop.trips) (fun | 0 => ⟨(x 1).val, (x 1).isLt⟩)

/-- At lane `j` of tile `L`'s row it holds the tile's sum in that lane. -/
theorem partsOf_emb (y g : FVec F S6400000 .f32) (L : grid0.Coords) (j : S16.Idx) :
    partsOf y g ((rowM L).view.emb j) = k0_pay3 (tileLoop y g L k0_t1_loop.trips) j := by
  have h := rowM_emb L j
  have h0 : (L 0).val < 2 := (L 0).isLt
  have h1 : (L 1).val < 16 := (L 1).isLt
  have hL : tileAt ⟨(((rowM L).view.emb j) 0).val % 2, Nat.mod_lt _ (by decide)⟩
      ⟨(((rowM L).view.emb j) 0).val / 2, by rw [h.1]; omega⟩ = L := by
    refine Eq.trans ?_ (tileAt_self L)
    congr 1
    · exact Fin.ext (by show (((rowM L).view.emb j) 0).val % 2 = (L 0).val; rw [h.1]; omega)
    · exact Fin.ext (by show (((rowM L).view.emb j) 0).val / 2 = (L 1).val; rw [h.1]; omega)
  have hj : (fun | 0 => ⟨(((rowM L).view.emb j) 1).val, (((rowM L).view.emb j) 1).isLt⟩ : S16.Idx) = j := by
    funext a
    match a with
    | 0 => exact Fin.ext h.2
  unfold partsOf
  rw [hL, hj]

/-- A row read at the tile's sums is the array of partial sums there. -/
theorem row_at_parts (y g : FVec F S6400000 .f32) (L : grid0.Coords) (f : FVec F S32x16 .f32)
    (hf : (rowM L).view.read (Elt F) f = k0_pay3 (tileLoop y g L k0_t1_loop.trips)) :
    ∀ x ∈ row (L 0) (L 1), f x = partsOf y g x := by
  intro x hx
  rw [← set_rowM, View.set, Finset.mem_map] at hx
  obtain ⟨j, -, rfl⟩ := hx
  rw [partsOf_emb, ← hf]
  rfl

end Cert.Proof

end
-- ==== Proof.Tile.lean ====
/-
One tile's task: two nested loops, over ten slabs and over the 1250 stretches of sixteen lanes of a slab, and the copy
of the lane sums to the tile's row.  The value is carried in the loops' invariants.
-/
module

public import proofs.«01_k».proof.Proof.Setup
public import Idealize.ShloMosaic.Lib.VecWindow

@[expose] public section

noncomputable section

namespace Cert.Proof

open Cert.KernelIdeal Cert.KernelIdeal.Gen

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ)
variable (d : Dev nD) (L : grid0.Coords)

/-- Tile `L`'s SparseCore. -/
abbrev cV (L : grid0.Coords) : Fin τ.nSC := (L 0).castLE hcore0
/-- Tile `L`'s place on its SparseCore. -/
abbrev jV (L : grid0.Coords) : Fin τ.nSub := (L 1).castLE hsub0
/-- Tile `L`'s thread on device `d`. -/
abbrev tV (d : Dev nD) (L : grid0.Coords) : Thread nD τ := V d (cV L) (jV L)

/-- A trip's load of the first slab buffer reads the sixteen entries of that trip. -/
theorem readAt_yb (t : Fin k0_t2_loop.trips) (f : ybM.view.ty.Contents (Elt F)) :
    View.readAt (Elt F) ybM.view (Rect.unit (s := S20000) (k0_off2 t) S16.size (k0_off2_inb t)).toLoadRect f = lanesAt f t := rfl
/-- A trip's load of the second slab buffer reads the sixteen entries of that trip. -/
theorem readAt_gb (t : Fin k0_t2_loop.trips) (f : gbM.view.ty.Contents (Elt F)) :
    View.readAt (Elt F) gbM.view (Rect.unit (s := S20000) (k0_off2 t) S16.size (k0_off2_inb t)).toLoadRect f = lanesAt f t := rfl

omit [FloatOps F] [Named F] in
/-- A slab copied whole into the first buffer is what the buffer then holds. -/
theorem write_yb (f w : ybM.view.ty.Contents (Elt F)) : ybM.view.write (Elt F) f w Finset.univ = w := View.write_whole_univ _ _ _
omit [FloatOps F] [Named F] in
/-- A slab copied whole into the second buffer is what the buffer then holds. -/
theorem write_gb (f w : gbM.view.ty.Contents (Elt F)) : gbM.view.write (Elt F) f w Finset.univ = w := View.write_whole_univ _ _ _

/-- The inner loop's invariant before trip `t`: both slab buffers whole, at `fy` and `fg`; the lane sums `slabLoop`. -/
def slabInv (fy : Buf (Elt F) (ybM.view.loc (tV d L))) (fg : Buf (Elt F) (gbM.view.loc (tV d L))) (a : FVec F S16 .f32)
    (t : ℕ) (acc : FVec F S16 .f32) : sProp 𝕄 :=
  iprop((ybM.view.loc (tV d L) ↦{fullShare} fy) ∗ (gbM.view.loc (tV d L) ↦{fullShare} fg) ∗ ⌜acc = slabLoop fy fg a t⌝)

/-- The outer loop's invariant before slab `k`: the tile's shares of both arguments as at the launch, its two slab
buffers at any contents, both copy semaphores at zero, the lane sums `tileLoop` of the first `k` slabs, and nothing new owed. -/
def tileInv (qy qg : PosShare TreeShare) (O : CellTallies nD τ sig (HIx 1)) (W : Waits sig (HIx 1)) (k : ℕ) (acc : FVec F S16 .f32) : sProp 𝕄 :=
  iprop(Transfers.MayWaits (tV d L) (none : HIx 1) O
    ∗ (yM.view.loc (tV d L) ↦{qy} m (yLoc d)) ∗ (gM.view.loc (tV d L) ↦{qg} m (gLoc d))
    ∗ (∃ f, ybM.view.loc (tV d L) ↦{fullShare} f) ∗ (∃ f, gbM.view.loc (tV d L) ↦{fullShare} f)
    ∗ semVal (tV d L, SemLoc.dma cc0_scoped0.sem) 0 ∗ semVal (tV d L, SemLoc.dma cc0_scoped1.sem) 0
    ∗ ⌜acc = tileLoop (m (yLoc d)) (m (gLoc d)) L k⌝
    ∗ ∃ W', ⌜∀ p ∈ W', p ∈ W ∨ p.2 = none⌝ ∗ owes (tV d L) O W')

/-- A tile's run.  From read shares of both arguments, its own row of the array and its scratch buffers, with the copy
semaphores at zero, it leaves the arguments as they were, in its row the lane sums of its ten slabs, and the semaphores at zero. -/
theorem tile_run (qy qg : PosShare TreeShare) (O : CellTallies nD τ sig (HIx 1)) (W : Waits sig (HIx 1))
    (fy : Buf (Elt F) (ybM.view.loc (tV d L))) (fg : Buf (Elt F) (gbM.view.loc (tV d L))) (fa : Buf (Elt F) (abM.view.loc (tV d L))) (fp : Buf (Elt F) ((rowM L).view.loc (tV d L))) :
    (iprop(Transfers.MayWaits (tV d L) (none : HIx 1) O
        ∗ (yM.view.loc (tV d L) ↦{qy} m (yLoc d)) ∗ (gM.view.loc (tV d L) ↦{qg} m (gLoc d))
        ∗ ((rowM L).view.loc (tV d L) ↦[(rowM L).view.set]{fullShare} fp)
        ∗ (ybM.view.loc (tV d L) ↦{fullShare} fy) ∗ (gbM.view.loc (tV d L) ↦{fullShare} fg) ∗ (abM.view.loc (tV d L) ↦{fullShare} fa)
        ∗ semVal (tV d L, SemLoc.dma cc0_scoped0.sem) 0 ∗ semVal (tV d L, SemLoc.dma cc0_scoped1.sem) 0
        ∗ semVal (tV d L, SemLoc.dma cc0_scoped2.sem) 0
        ∗ owes (tV d L) O W) : sProp 𝕄)
      ⊢ wp frame (wpE (defs₀ (F := F)) 𝒱₀ (tV d L) none) Set.univ
          (cc0_k L yM (Memref.isWhole_whole _) gM (Memref.isWhole_whole _) pM (Memref.isWhole_whole _)
            ybM (Memref.isWhole_whole _) gbM (Memref.isWhole_whole _) abM (Memref.isWhole_whole _) cc0_scoped0 cc0_scoped1 cc0_scoped2)
          fun _ => iprop((yM.view.loc (tV d L) ↦{qy} m (yLoc d)) ∗ (gM.view.loc (tV d L) ↦{qg} m (gLoc d))
            ∗ (∃ f, ⌜(rowM L).view.read (Elt F) f = k0_pay3 (tileLoop (m (yLoc d)) (m (gLoc d)) L k0_t1_loop.trips)⌝
                ∗ ((rowM L).view.loc (tV d L) ↦[(rowM L).view.set]{fullShare} f))
            ∗ (∃ f, ybM.view.loc (tV d L) ↦{fullShare} f) ∗ (∃ f, gbM.view.loc (tV d L) ↦{fullShare} f) ∗ (∃ f, abM.view.loc (tV d L) ↦{fullShare} f)
            ∗ semVal (tV d L, SemLoc.dma cc0_scoped0.sem) 0 ∗ semVal (tV d L, SemLoc.dma cc0_scoped1.sem) 0
            ∗ semVal (tV d L, SemLoc.dma cc0_scoped2.sem) 0
            ∗ ∃ W', ⌜∀ p ∈ W', p ∈ W ∨ p.2 = none⌝ ∗ owes (tV d L) O W') := by
  rw [cc0_k_eq_skeleton]; unfold cc0_k_skel
  iintro ⟨#Hmw, Hy, Hg, Hp, Hyb, Hgb, Hab, HsA, HsB, HsC, HO⟩
  sl_for (tileInv m d L qy qg O W) $$ [Hy Hg Hyb Hgb HsA HsB HO]
  case region =>
    intro k acc
    unfold tileInv
    iintro ⟨#Hmw, Hy, Hg, ⟨%fy, Hyb⟩, ⟨%fg, Hgb⟩, HsA, HsB, %hacc, %W', %hW', HO⟩
    sl_exec (disch := exact View.amount_pos _ _ (show 0 < S20000.numel by decide))
    sl_for (slabInv d L (ybM.view.write (Elt F) fy (tile_run.sl.dma0 m d L k) Finset.univ) (gbM.view.write (Elt F) fg (tile_run.sl.dma0_1 m d L k) Finset.univ) acc) $$ [Hyb Hgb]
    case region =>
      intro t b
      unfold slabInv
      iintro ⟨Hyb, Hgb, %hb⟩
      sl_exec
      sl_step
      isplitl [Hyb]; · iexact Hyb
      isplitl [Hgb]; · iexact Hgb
      ipureintro
      subst hb
      refine Eq.trans ?_ (slabLoop_succ (ybM.view.write (Elt F) fy (tile_run.sl.dma0 m d L k) Finset.univ)
        (gbM.view.write (Elt F) fg (tile_run.sl.dma0_1 m d L k) Finset.univ) acc t).symm
      rw [readAt_yb, readAt_gb]
    · unfold slabInv
      iframe
      ipureintro
      exact (slabLoop_zero _ _ _).symm
    iintro %b HI
    unfold slabInv
    icases HI with ⟨Hyb, Hgb, %hb⟩
    sl_exec
    sl_step
    isplitr; · iexact Hmw
    isplitl [Hy]; · iexact Hy
    isplitl [Hg]; · iexact Hg
    isplitl [Hyb]; · iexists _; iexact Hyb
    isplitl [Hgb]; · iexists _; iexact Hgb
    isplitl [HsA]; · iexact HsA
    isplitl [HsB]; · iexact HsB
    isplitr
    · ipureintro
      subst hb hacc
      refine Eq.trans ?_ (tileLoop_succ _ _ L k).symm
      have ey : tile_run.sl.dma0 m d L k = (yslab L k).view.read (Elt F) (m (yLoc d)) := rfl
      have eg : tile_run.sl.dma0_1 m d L k = (gslab L k).view.read (Elt F) (m (gLoc d)) := rfl
      rw [ey, eg, write_yb, write_gb]
    · iexists (insert (SemLoc.dma cc0_scoped1.sem, default) (insert (SemLoc.dma cc0_scoped0.sem, default) W'))
      isplitr
      · ipureintro
        intro p hp
        rcases Finset.mem_insert.mp hp with rfl | hp
        · exact .inr rfl
        rcases Finset.mem_insert.mp hp with rfl | hp
        · exact .inr rfl
        · exact hW' p hp
      · iexact HO
  · unfold tileInv
    isplitr; · iexact Hmw
    isplitl [Hy]; · iexact Hy
    isplitl [Hg]; · iexact Hg
    isplitl [Hyb]; · iexists _; iexact Hyb
    isplitl [Hgb]; · iexists _; iexact Hgb
    isplitl [HsA]; · iexact HsA
    isplitl [HsB]; · iexact HsB
    isplitr
    · ipureintro
      exact (tileLoop_zero _ _ L).symm
    · iexists W
      isplitr
      · ipureintro; exact fun p hp => .inl hp
      · iexact HO
  iintro %acc HI
  unfold tileInv
  icases HI with ⟨-, Hy, Hg, Hyb, Hgb, HsA, HsB, %hacc, %W', %hW', HO⟩
  sl_exec
  sl_step
  isplitl [Hy]; · iexact Hy
  isplitl [Hg]; · iexact Hg
  isplitl [Hp]
  · iexists _
    isplitr
    on_goal 2 => iexact Hp
    ipureintro
    rw [View.read_writes_whole]
    show abM.view.read (Elt F) (abM.view.writes (Elt F) fa [⟨Rect.unit ![0] S16.size _, k0_pay3 acc⟩]) = _
    rw [View.read_writes_full, hacc]
  isplitl [Hyb]; · iexact Hyb
  isplitl [Hgb]; · iexact Hgb
  isplitl [Hab]; · iexists _; iexact Hab
  isplitl [HsA]; · iexact HsA
  isplitl [HsB]; · iexact HsB
  isplitl [HsC]; · iexact HsC
  iexists (insert (SemLoc.dma cc0_scoped2.sem, default) W')
  isplitr
  · ipureintro
    intro p hp
    rcases Finset.mem_insert.mp hp with rfl | hp
    · exact .inr rfl
    · exact hW' p hp
  · iexact HO

end Cert.Proof

end
-- ==== Proof.Task.lean ====
/-
What the launch hands out and takes back, and the tile's obligation: a tile is handed a share of the two argument
arrays and its own row of the 32 × 16 array, and brings the row back holding its lane sums; a SparseCore's sixteen
tiles together bring back its sixteen rows.
-/
module

public import proofs.«01_k».proof.Proof.Rows
public import proofs.«01_k».proof.Proof.Tile

@[expose] public section

noncomputable section

namespace Cert.Proof

open Cert.KernelIdeal Cert.KernelIdeal.Gen

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ)

/-! ## What the handshakes carry -/

/-- A SparseCore's share of an argument array, and a tile's part of it. -/
abbrev coreShare (c : Fin 2) : PosShare TreeShare := Transfers.dealOf fullShare Finset.univ c
/-- The share of the arguments that a tile reads with: its part of its SparseCore's share. -/
abbrev tileShare (c : Fin 2) (s : Fin 16) : PosShare TreeShare := Transfers.dealOf (coreShare c) Finset.univ s

/-- The two argument arrays at a share. -/
abbrev argPts (d : Dev nD) (q : PosShare TreeShare) : sProp 𝕄 := iprop((yLoc d ↦{q} m (yLoc d)) ∗ (gLoc d ↦{q} m (gLoc d)))
/-- One row of the array of partial sums. -/
abbrev rowPts (d : Dev nD) (f : FVec F S32x16 .f32) (c : Fin 2) (s : Fin 16) : sProp 𝕄 := pLoc d ↦[row c s]{fullShare} f
/-- The partial sums of what the two argument arrays hold at the launch. -/
abbrev parts (d : Dev nD) : FVec F S32x16 .f32 := partsOf (m (yLoc d)) (m (gLoc d))

/-- A SparseCore of the call as a number below two. -/
abbrev cast₂ (c : Fin ((K (F := F)).nCore 0)) : Fin 2 := Fin.cast nCore_zero c
/-- A tile of the call as a number below sixteen. -/
abbrev cast₁₆ (s : Fin ((K (F := F)).nSub 0)) : Fin 16 := Fin.cast nSub_zero s

/-- The call's payloads: out go shares of the arguments and the rows as they lie, back come the rows at the sums. -/
def P : (K (F := F)).Pay (nD := nD) (Val := Elt F) (Name := ℕ) (U := UU) where
  st := fun q d c => match q with
    | 0 => iprop(argPts m d (coreShare (cast₂ c)) ∗ bigSep Finset.univ fun s : Fin 16 => rowPts d (m (pLoc d)) (cast₂ c) s)
  dn := fun q d c => match q with
    | 0 => iprop(argPts m d (coreShare (cast₂ c)) ∗ bigSep Finset.univ fun s : Fin 16 => rowPts d (parts m d) (cast₂ c) s)
  go := fun q d c s => match q with
    | 0 => iprop(argPts m d (tileShare (cast₂ c) (cast₁₆ s)) ∗ rowPts d (m (pLoc d)) (cast₂ c) (cast₁₆ s))
  td := fun q d c s => match q with
    | 0 => iprop(argPts m d (tileShare (cast₂ c) (cast₁₆ s)) ∗ rowPts d (parts m d) (cast₂ c) (cast₁₆ s))
  x := fun _ _ => iprop(emp)

/-- All that the handshakes carry is storable in an invariant. -/
instance P_storable : (P (F := F) m).IsStorable where
  st q d c := match q with
    | 0 => (inferInstance : BI.Storable (upEmb : UEmb _ 𝕄)
        iprop(argPts m d (coreShare (cast₂ c)) ∗ bigSep Finset.univ fun s : Fin 16 => rowPts d (m (pLoc d)) (cast₂ c) s))
  dn q d c := match q with
    | 0 => (inferInstance : BI.Storable (upEmb : UEmb _ 𝕄)
        iprop(argPts m d (coreShare (cast₂ c)) ∗ bigSep Finset.univ fun s : Fin 16 => rowPts d (parts m d) (cast₂ c) s))
  go q d c s := match q with
    | 0 => (inferInstance : BI.Storable (upEmb : UEmb _ 𝕄)
        iprop(argPts m d (tileShare (cast₂ c) (cast₁₆ s)) ∗ rowPts d (m (pLoc d)) (cast₂ c) (cast₁₆ s)))
  td q d c s := match q with
    | 0 => (inferInstance : BI.Storable (upEmb : UEmb _ 𝕄)
        iprop(argPts m d (tileShare (cast₂ c) (cast₁₆ s)) ∗ rowPts d (parts m d) (cast₂ c) (cast₁₆ s)))

/-! ## The tile -/

section Tile

variable (d : Dev nD) (L : grid0.Coords)

/-- The first copy's semaphore. -/
abbrev semA (d : Dev nD) (L : grid0.Coords) : GSem nD τ sig := (tV d L, .dma cc0_scoped0.sem)
/-- The second copy's semaphore. -/
abbrev semB (d : Dev nD) (L : grid0.Coords) : GSem nD τ sig := (tV d L, .dma cc0_scoped1.sem)
/-- The semaphore of the copy to the tile's row. -/
abbrev semC (d : Dev nD) (L : grid0.Coords) : GSem nD τ sig := (tV d L, .dma cc0_scoped2.sem)

omit [FloatOps F] [Named F] in
/-- The three semaphores of the tile's copies are among its own. -/
theorem ownSems0_tile :
    (ownSems0 (tV d L) : sProp 𝕄)
      = iprop(semVal (semA d L) 0 ∗ semVal (semB d L) 0 ∗ semVal (semC d L) 0
          ∗ bigSep ((((ownCells (tV d L)).erase (semA d L)).erase (semB d L)).erase (semC d L)) fun g => semVal g 0) := by
  have hA : semA d L ∈ ownCells (tV d L) := mem_ownCells.mpr ⟨rfl, by
    show (SemLoc.dma cc0_scoped0.sem : SemLoc sig).isScoped .scVector = true; decide⟩
  have hB : semB d L ∈ ownCells (tV d L) := mem_ownCells.mpr ⟨rfl, by
    show (SemLoc.dma cc0_scoped1.sem : SemLoc sig).isScoped .scVector = true; decide⟩
  have hC : semC d L ∈ ownCells (tV d L) := mem_ownCells.mpr ⟨rfl, by
    show (SemLoc.dma cc0_scoped2.sem : SemLoc sig).isScoped .scVector = true; decide⟩
  have hBA : semB d L ≠ semA d L := by simp [semA, semB]; decide
  have hCA : semC d L ≠ semA d L := by simp [semA, semC]; decide
  have hCB : semC d L ≠ semB d L := by simp [semB, semC]; decide
  unfold SparseCore.Cfg.ownSems0
  rw [SparseCore.bigSep_erase' hA, SparseCore.bigSep_erase' (Finset.mem_erase.mpr ⟨hBA, hB⟩),
    SparseCore.bigSep_erase' (Finset.mem_erase.mpr ⟨hCB, Finset.mem_erase.mpr ⟨hCA, hC⟩⟩)]

/-- The tile's buffer for a slab of the first argument. -/
abbrev bufY (L : grid0.Coords) : DevRef τ sig := (Proc.scVector (cV L) (jV L)).devRef cc0_scratch0
/-- The tile's buffer for a slab of the second argument. -/
abbrev bufG (L : grid0.Coords) : DevRef τ sig := (Proc.scVector (cV L) (jV L)).devRef cc0_scratch1
/-- The tile's buffer for its lane sums. -/
abbrev bufA (L : grid0.Coords) : DevRef τ sig := (Proc.scVector (cV L) (jV L)).devRef cc0_scratch2

omit [FloatOps F] [Named F] in
/-- The three scratch buffers are among the tile's own. -/
theorem ownBufs_tile :
    (ownBufs (tV d L) : sProp 𝕄)
      = iprop((∃ f, ybM.view.loc (tV d L) ↦{fullShare} f) ∗ (∃ f, gbM.view.loc (tV d L) ↦{fullShare} f) ∗ (∃ f, abM.view.loc (tV d L) ↦{fullShare} f)
          ∗ bigSep ((((ownRefs (τ := τ) (.scVector (cV L) (jV L))).erase (bufY L)).erase (bufG L)).erase (bufA L))
              fun b => iprop(∃ f, ((d, b) : Loc nD τ sig) ↦{fullShare} f)) := by
  have hY : bufY L ∈ ownRefs (τ := τ) (.scVector (cV L) (jV L)) := SparseCore.Cfg.mem_ownRefs_of_owner rfl
  have hG : bufG L ∈ ownRefs (τ := τ) (.scVector (cV L) (jV L)) := SparseCore.Cfg.mem_ownRefs_of_owner rfl
  have hA : bufA L ∈ ownRefs (τ := τ) (.scVector (cV L) (jV L)) := SparseCore.Cfg.mem_ownRefs_of_owner rfl
  have hGY : bufG L ≠ bufY L := fun e => absurd (Proc.devRef_injective _ e) (show (cc0_scratch1 : Ref sig .scVector) ≠ cc0_scratch0 by decide)
  have hAY : bufA L ≠ bufY L := fun e => absurd (Proc.devRef_injective _ e) (show (cc0_scratch2 : Ref sig .scVector) ≠ cc0_scratch0 by decide)
  have hAG : bufA L ≠ bufG L := fun e => absurd (Proc.devRef_injective _ e) (show (cc0_scratch2 : Ref sig .scVector) ≠ cc0_scratch1 by decide)
  unfold SparseCore.Cfg.ownBufs
  refine (SparseCore.bigSep_erase' hY).trans ?_
  rw [SparseCore.bigSep_erase' (Finset.mem_erase.mpr ⟨hGY, hG⟩),
    SparseCore.bigSep_erase' (Finset.mem_erase.mpr ⟨hAG, Finset.mem_erase.mpr ⟨hAY, hA⟩⟩)]

omit [FloatOps F] [Named F] in
/-- A tile's row, as the tile addresses it. -/
theorem pts_row (f : FVec F S32x16 .f32) :
    ((rowM L).view.loc (tV d L) ↦[(rowM L).view.set]{fullShare} f : sProp 𝕄) = rowPts d f (L 0) (L 1) := by
  rw [set_rowM]

/-- The tile's task: from its shares of the arguments and its row, to the row at the tile's lane sums. -/
theorem tile_task (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ (argPts m d q ∗ rowPts d (m (pLoc d)) (L 0) (L 1))
        ∗ scopedBufs (tV d L) ∗ scopedSems0 (tV d L) ∗ owes (tV d L) O W)
      ⊢ wp frame (wpE (defs₀ (F := F)) 𝒱₀ (tV d L) none) Set.univ
          (cc0_k L yM (Memref.isWhole_whole _) gM (Memref.isWhole_whole _) pM (Memref.isWhole_whole _)
            ybM (Memref.isWhole_whole _) gbM (Memref.isWhole_whole _) abM (Memref.isWhole_whole _) cc0_scoped0 cc0_scoped1 cc0_scoped2)
          fun _ => iprop((argPts m d q ∗ rowPts d (parts m d) (L 0) (L 1))
            ∗ scopedBufs (tV d L) ∗ scopedSems0 (tV d L)
            ∗ ∃ W', ⌜∀ p ∈ W', p ∈ W ∨ p.2 = none ∨ p.2 = some (0 : Fin 1)⌝ ∗ owes (tV d L) O W') := by
  rw [(K (F := F)).scopedBufs_V hF d (cV L) (jV L), SparseCore.Cfg.scopedSems0_V (Val := Elt F) d (cV L) (jV L), ownSems0_tile, ownBufs_tile]
  iintro ⟨#Hlv, -, ⟨⟨Hy, Hg⟩, Hp⟩, ⟨⟨%fy, Hyb⟩, ⟨%fg, Hgb⟩, ⟨%fa, Hab⟩, Hbufs⟩, ⟨HsA, HsB, HsC, Hsems⟩, HO⟩
  ihave Hmw := (show levAts (K (F := F)).L (K (F := F)).lev ⊢ Transfers.MayWaits (tV d L) (none : HIx 1) O from
    (K (F := F)).mayWaits_none (thr := tV d L) hO) $$ Hlv
  ihave Hp' := (Entails.of_eq (pts_row (F := F) d L _).symm) $$ Hp
  iapply (wp_wand frame _ _) $$ [Hmw Hy Hg Hp' Hyb Hgb Hab HsA HsB HsC HO]
  · iapply (tile_run m d L q q O W fy fg fa (m (pLoc d)))
    isplitr; · iexact Hmw
    iframe
  iintro %_ ⟨Hy, Hg, ⟨%f, %hf, Hp⟩, Hyb, Hgb, Hab, HsA, HsB, HsC, %W', %hW', HO⟩
  ihave Hp := (Entails.of_eq ((pts_row (F := F) d L f).trans (pointsTo_congr (row_at_parts _ _ L f hf)))) $$ Hp
  isplitl [Hy Hg Hp]
  · isplitr [Hp]
    · isplitl [Hy] <;> iassumption
    · iexact Hp
  isplitl [Hyb Hgb Hab Hbufs]; · iframe
  isplitl [HsA HsB HsC Hsems]; · iframe
  iexists W'
  isplitr
  · ipureintro
    exact fun p hp => (hW' p hp).imp_right Or.inl
  · iexact HO

end Tile

/-- What a tile runs: the kernel's body at its two coordinates, where these are among the call's. -/
theorem defs₀_vector (c : Fin τ.nSC) (s : Fin τ.nSub) :
    defs₀ (F := F) (.scVector c s) 0 ()
      = SparseCore.onTile hcore0 hsub0 (fun c s => cc0_k (tileAt c s)
          yM (Memref.isWhole_whole _) gM (Memref.isWhole_whole _) pM (Memref.isWhole_whole _)
          ybM (Memref.isWhole_whole _) gbM (Memref.isWhole_whole _) abM (Memref.isWhole_whole _) cc0_scoped0 cc0_scoped1 cc0_scoped2) ⟨⟩ c s := rfl

/-- Every tile meets its obligation. -/
theorem tileObl (hF : (K (F := F)).Facts) : (K (F := F)).TileObl (D (F := F)) 𝒱 (P m) v₀ 0 := by
  intro d c s O W hO _ _
  simp only [show (P m).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hcs, and_self, ↓reduceDIte]
  exact tile_task m d (tileAt (cast₂ c) (cast₁₆ s)) hF (tileShare (cast₂ c) (cast₁₆ s)) O W hO

/-! ## A SparseCore's shares and rows among its tiles -/

omit [FloatOps F] [Named F] in
/-- A SparseCore's shares of the arguments are its sixteen tiles' shares together. -/
theorem args_split (d : Dev nD) (c : Fin 2) :
    argPts m d (coreShare c) = bigSep Finset.univ fun s : Fin 16 => argPts m d (tileShare c s) := by
  unfold argPts
  rw [Transfers.pointsTo_deal (ℓ := yLoc d) (Finset.univ : Finset (Fin 16)) Finset.univ_nonempty (coreShare c),
    Transfers.pointsTo_deal (ℓ := gLoc d) (Finset.univ : Finset (Fin 16)) Finset.univ_nonempty (coreShare c), bigSep_sep']

/-- To own something for each tile of the call is to own it for each number below sixteen. -/
theorem bigSep_tiles (Φ : Fin 16 → sProp 𝕄) :
    (bigSep Finset.univ fun s : Fin ((K (F := F)).nSub 0) => Φ (cast₁₆ s)) = bigSep Finset.univ Φ :=
  bigSep_congr fun _ _ => congrArg Φ (Fin.ext rfl)

/-- What a SparseCore takes is its tiles' takings, and their returns are its return. -/
theorem vecSplit : (K (F := F)).VecSplit' (P m) 0 := by
  intro d c
  show iprop(argPts m d (coreShare (cast₂ c)) ∗ bigSep Finset.univ fun s : Fin 16 => rowPts d (m (pLoc d)) (cast₂ c) s) ⊢ |={Set.univ}=> iprop(
      (bigSep Finset.univ fun s : Fin ((K (F := F)).nSub 0) =>
        iprop(argPts m d (tileShare (cast₂ c) (cast₁₆ s)) ∗ rowPts d (m (pLoc d)) (cast₂ c) (cast₁₆ s)))
      ∗ ((bigSep Finset.univ fun s : Fin ((K (F := F)).nSub 0) =>
          iprop(argPts m d (tileShare (cast₂ c) (cast₁₆ s)) ∗ rowPts d (parts m d) (cast₂ c) (cast₁₆ s)))
          -∗ iprop(argPts m d (coreShare (cast₂ c)) ∗ bigSep Finset.univ fun s : Fin 16 => rowPts d (parts m d) (cast₂ c) s)))
  rw [bigSep_tiles (F := F) (fun s => iprop(argPts m d (tileShare (cast₂ c) s) ∗ rowPts d (m (pLoc d)) (cast₂ c) s)),
    bigSep_tiles (F := F) (fun s => iprop(argPts m d (tileShare (cast₂ c) s) ∗ rowPts d (parts m d) (cast₂ c) s)),
    bigSep_sep' _ (fun s => argPts m d (tileShare (cast₂ c) s)) (fun s => rowPts d (m (pLoc d)) (cast₂ c) s),
    bigSep_sep' _ (fun s => argPts m d (tileShare (cast₂ c) s)) (fun s => rowPts d (parts m d) (cast₂ c) s), args_split]
  iintro H; imodintro
  isplitl [H]; · iexact H
  iintro H
  iexact H

end Cert.Proof

end
-- ==== Proof.Region.lean ====
/-
  The TensorCore kernel that follows the SparseCore call: it copies the whole 32 × 16 array of lane sums into a
  staging buffer, adds all 512 entries, multiplies the sum by the constant `recip`, and copies the one number out.

  `sum_run` runs the kernel's body; `region` states the whole call, copies included, over the two arrays and the
  record of waits that the host thread hands in and takes back.
-/
module

public import proofs.«01_k».proof.Proof.Setup

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F] [Named F]

local notation "𝕄" => MT nD τ sig (HIx 1) (Elt F) ℕ UU ℕ

/-- The TensorCore kernel's staging buffer for its input, the lane sums. -/
abbrev inM : Memref sig .tc .vmem S32x16 .f32 := Memref.whole cc1_stg0_0
/-- The TensorCore kernel's staging buffer for its output. -/
abbrev outM : Memref sig .tc .smem S1x1 .f32 := Memref.whole cc1_stg1_0

/-- The one number the kernel leaves, over the lane sums it read. -/
abbrev total (f : FVec F S32x16 .f32) : FVec F S1x1 .f32 := fun _ => k1_pay1 f

omit [FloatOps F] [Named F] in
/-- Loading the whole staging buffer reads its contents. -/
theorem readAt_in (f : inM.view.ty.Contents (Elt F)) :
    View.readAt (Elt F) inM.view (Rect.unit (s := S32x16) ![0, 0] S32x16.size inb_S32x16_S32x16_0_0).toLoadRect f = f := by
  funext j
  show f _ = f j
  congr 1
  funext k
  apply Fin.ext
  fin_cases k
  · show 0 + 1 * (j 0).val = (j 0).val; omega
  · show 0 + 1 * (j 1).val = (j 1).val; omega

omit [FloatOps F] [Named F] in
/-- Storing the one entry of the output's buffer replaces its contents. -/
theorem writes_out (f w : FVec F S1x1 .f32) :
    outM.view.writes (Elt F) f [⟨Rect.unit (s := S1x1) ![0, 0] S1x1.size inb_S1x1_S1x1_0_0, w⟩] = w :=
  Memref.write_access_unit_zero_univ (Elt F) cc1_stg1_0 (by decide) inb_S1x1_S1x1_0_0 f w

/-- The kernel's body, from both staging buffers whole: it leaves the lane sums as they were, and the scaled total in
    the other buffer. -/
theorem sum_run (d : Dev nD) (f0 : FVec F S32x16 .f32) (f1 : FVec F S1x1 .f32) (E : Set ℕ) (Q : PUnit → sProp 𝕄) :
    iprop((inM.view.loc (SparseCore.T d) ↦{fullShare} f0) ∗ (outM.view.loc (SparseCore.T d) ↦{fullShare} f1)
        ∗ (iprop((inM.view.loc (SparseCore.T d) ↦{fullShare} f0) ∗ (outM.view.loc (SparseCore.T d) ↦{fullShare} total f0)) -∗ Q ⟨⟩))
      ⊢ wp frame (wpE (defs₀ (F := F)) Variants.none (SparseCore.T d) none) E
          (cc1_body inM (hstage1_0 0) outM (hstage1_1 0)) Q := by
  rw [cc1_body_eq_skeleton]
  iintro ⟨H0, H1, Hk⟩
  sl_exec
  sl_step
  iapply Hk
  isplitl [H0]; · iexact H0
  rw [writes_out, readAt_in]
  iexact H1

/-! ## The call, copies included -/

/-- No table is prefetched. -/
abbrev adm : (p : Fin 1) → (pcfgs (F := F) p).Adm := fun p => (cfgs p).toPCfg_adm

/-- The block copied in is the whole array of lane sums. -/
abbrev staged (f0 : FVec F S32x16 .f32) : (cfg1.win 0).block.Idx → Elt F (cfg1.win 0).elt :=
  ((cfg1.win 0).blk t1_0).view.read (Elt F) f0

/-- What each array holds before the call. -/
def entryArr (f0 : FVec F S32x16 .f32) (f1 : FVec F S1x1 .f32) (d : Dev nD) :
    (w : Fin 2) → Buf (Elt F) ((SparseCore.T d : Thread nD τ).loc (Pipeline.arrRef spec1 w))
  | ⟨0, _⟩ => f0
  | ⟨1, _⟩ => f1

/-- The call's data: the arrays at entry; what each staging buffer holds after the body; nothing owed; the waits on
    record all at levels up to `B`. -/
def dat (B : ℕ) (f0 : FVec F S32x16 .f32) (f1 : FVec F S1x1 .f32) (d : Dev nD) : Dat τ (Elt F) (HIx 1) ℕ UU ℕ cfg1 d where
  A w := entryArr f0 f1 d w
  after w _ := match w with
    | ⟨0, _⟩ => staged f0
    | ⟨1, _⟩ => total (staged f0)
  Φ _ := Pipeline.scopedRest (Ix := HIx 1) (Name := ℕ) (U := UU) (Lvl := ℕ) (Val := Elt F) spec1 d
  q _ := fullShare
  owed _ := 0
  recorded _ := {p | (K (F := F)).lev (SparseCore.T d, p.1) p.2 ≤ B}

/-- The call's data, as a family over the program's one pipeline. -/
def pdats (B : ℕ) (f0 : Dev nD → FVec F S32x16 .f32) (f1 : Dev nD → FVec F S1x1 .f32) :
    (p : Fin 1) → (d : Dev nD) → Dat τ (Elt F) (HIx 1) ℕ UU ℕ (Pipeline.pin (pcfgs (F := F)) adm p) d
  | ⟨0, _⟩ => fun d => dat B (f0 d) (f1 d) d

/-- The staging buffer holds the copied block when the body runs. -/
theorem before_in (B : ℕ) (f0 : FVec F S32x16 .f32) (f1 : FVec F S1x1 .f32) (d : Dev nD) (e : (cfg1.win 0).block.Idx → Elt F (cfg1.win 0).elt) :
    (dat B f0 f1 d).before 0 t1_0 e = staged f0 := by
  unfold Dat.before; rw [if_pos (by decide)]; rfl

/-- The body meets the call's data. -/
theorem body_obligation (B : ℕ) (f0 : FVec F S32x16 .f32) (f1 : FVec F S1x1 .f32) (d : Dev nD) :
    BodyObligation (dat B f0 f1 d) (defs₀ (F := F)) 𝒱₀ none Set.univ := fun t => by
  obtain rfl := fin_N1 t
  rw [bigSep_W1, bigSep_W1]
  simp only [owns_whole_eq]
  rw [show (dat B f0 f1 d).Φ t1_0.succ = (dat B f0 f1 d).Φ t1_0.castSucc from rfl,
    show (dat B f0 f1 d).owesAt none t1_0.succ = (dat B f0 f1 d).owesAt none t1_0.castSucc from rfl]
  iintro ⟨HΦ, Howes, ⟨%d0, %g0, %hg0, H0⟩, ⟨%d1, %g1, -, H1⟩⟩
  rw [before_in] at hg0
  subst hg0
  iapply (sum_run d (staged f0) g1 Set.univ _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro; dsimp only [dat]

/-- Copied in whole, the block is the array. -/
theorem staged_eq (f0 : FVec F S32x16 .f32) : staged f0 = f0 := by
  funext j
  show f0 _ = f0 j
  congr 1
  funext k
  apply Fin.ext
  fin_cases k
  · show 0 * _ + 1 * (j 0).val = (j 0).val; omega
  · show 0 * _ + 1 * (j 1).val = (j 1).val; omega

/-- After the call the input array is as it was, -/
theorem arrAt_in (B : ℕ) (f0 : FVec F S32x16 .f32) (f1 : FVec F S1x1 .f32) (d : Dev nD) : (dat B f0 f1 d).arrAt 0 cfg1.N = f0 :=
  (dat B f0 f1 d).arrAt_in 0 rfl _

/-- and the output array holds the scaled total. -/
theorem arrAt_out (B : ℕ) (f0 : FVec F S32x16 .f32) (f1 : FVec F S1x1 .f32) (d : Dev nD) : (dat B f0 f1 d).arrAt 1 cfg1.N = total f0 := by
  refine ((dat B f0 f1 d).arrAt_succ 1 t1_0).trans ?_
  rw [if_pos (flush1_1 _)]
  funext i
  have h := View.write_emb_of_mem (v := ((cfg1.win 1).blk t1_0).view) (Val := Elt F) ((dat B f0 f1 d).arrAt 1 t1_0) ((dat B f0 f1 d).flushed 1 t1_0)
    (M := Finset.univ) (x := (show S1x1.Idx from i)) (Finset.mem_univ _)
  have e : ((cfg1.win 1).blk t1_0).view.emb (show S1x1.Idx from i) = i := by
    funext k
    apply Fin.ext
    fin_cases k
    · show 0 * _ + 1 * (i 0).val = (i 0).val; omega
    · show 0 * _ + 1 * (i 1).val = (i 1).val; omega
  rw [e] at h
  refine h.trans ?_
  show k1_pay1 (staged f0) = k1_pay1 f0
  rw [staged_eq]

/-- The thread's record of waits: it owes nothing, and every wait on record is at a level up to `B`. -/
def quiet (B : ℕ) (d : Dev nD) : sProp 𝕄 :=
  iprop(∃ W, ⌜(K (F := F)).WBelow (SparseCore.T d) W B⌝ ∗ owes (SparseCore.T d) (0 : CellTallies nD τ sig (HIx 1)) W)

/-- The call's two arrays, as the thread holds them. -/
theorem arrays_pts (B : ℕ) (f0 : Dev nD → FVec F S32x16 .f32) (f1 : Dev nD → FVec F S1x1 .f32) (d : Dev nD)
    (A : (w : Fin 2) → Buf (Elt F) ((SparseCore.T d : Thread nD τ).loc (Pipeline.arrRef spec1 w))) :
    (pdats B f0 f1 0 d).arrays A = iprop((pLoc d ↦{fullShare} A 0) ∗ (sLoc d ↦{fullShare} A 1)) := by
  refine (Pipeline.arrays_eq (Pipeline.pin (pcfgs (F := F)) adm) (pdats B f0 f1) 0 d arr_whole1 ((pdats B f0 f1 0 d).share_full fun _ => rfl) A).trans ?_
  exact bigSep_W1 _

/-- After the call: the lane sums, and the scaled total. -/
theorem exit_pts (B : ℕ) (f0 : Dev nD → FVec F S32x16 .f32) (f1 : Dev nD → FVec F S1x1 .f32) (d : Dev nD) :
    (pdats B f0 f1 0 d).arrays ((pdats B f0 f1 0 d).arrAt · cfg1.N)
      = iprop((pLoc d ↦{fullShare} f0 d) ∗ (sLoc d ↦{fullShare} total (f0 d))) := by
  refine (arrays_pts B f0 f1 d _).trans ?_
  exact congrArg₂ (fun a b => iprop((pLoc d ↦{fullShare} a) ∗ (sLoc d ↦{fullShare} b)))
    (arrAt_in B (f0 d) (f1 d) d) (arrAt_out B (f0 d) (f1 d) d)

set_option backward.isDefEq.respectTransparency.types false in
/-- The call over the thread's state: from the lane sums and the output's array, to the same lane sums and the output's array at
    the scaled total, the thread owing nothing before and after. -/
def region (B : ℕ) (f0 : Dev nD → FVec F S32x16 .f32) (f1 : Dev nD → FVec F S1x1 .f32) :
    Pipeline.RegionSeg (pcfgs (F := F)) adm (pdats B f0 f1) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation B (f0 d) (f1 d) d).loose
  hwaits := Pipeline.hwaits_of_owed_zero _ _ _ _ (K (F := F)).L (K (F := F)).lev 0 fun _ _ => rfl
  pre d := iprop(((pLoc d ↦{fullShare} f0 d) ∗ (sLoc d ↦{fullShare} f1 d)) ∗ quiet B d)
  post d := iprop(((pLoc d ↦{fullShare} f0 d) ∗ (sLoc d ↦{fullShare} total (f0 d))) ∗ quiet B d)
  X _ := BI.emp
  Y _ := BI.emp
  Z _ := BI.emp
  hentry d := by
    rw [Pipeline.ownSems0_none]
    iintro ⟨⟨Ha, HO⟩, -, -⟩
    imodintro
    isplitl [Ha]; · rw [arrays_pts]; iexact Ha
    isplitr; · unfold Pipeline.prefHeld; rw [show (Finset.univ : Finset (Fin 0)) = ∅ from rfl, BI.bigSep_empty]; iempintro
    isplitl [HO]
    · unfold Pipeline.Dat.owesAt Pipeline.owesWithin quiet
      icases HO with ⟨%W, %hW, HO⟩; iexists W; isplitr; · ipureintro; exact fun p hp => Or.inl (hW p hp)
      iexact HO
    isplitr <;> iempintro
  hin d := by
    rw [show (pdats B f0 f1 0 d).Φ 0 = Pipeline.scopedRest (Ix := HIx 1) (Name := ℕ) (U := UU) (Lvl := ℕ) (Val := Elt F) spec1 d from rfl]
    iintro ⟨-, -, Hr⟩; iexact Hr
  hout d := by
    rw [Pipeline.ownSems0_none, show (pdats B f0 f1 0 d).Φ (Fin.last _) = Pipeline.scopedRest (Ix := HIx 1) (Name := ℕ) (U := UU) (Lvl := ℕ) (Val := Elt F) spec1 d from rfl]
    iintro Hr
    isplitr; · iempintro
    isplitr; · iempintro
    iexact Hr
  hexit d := by
    iintro ⟨Ha, HO, -, -⟩
    imodintro
    isplitl [Ha]
    · rw [← exit_pts B f0 f1 d]; iexact Ha
    unfold Pipeline.Dat.owesAt Pipeline.owesWithin quiet
    icases HO with ⟨%W, %hW, HO⟩; iexists W
    isplitr
    · ipureintro
      intro p hp
      rcases hW hp with h | ⟨w, s, rfl⟩
      · exact h
      · exact Nat.zero_le _
    iexact HO

end Cert.Proof

end
-- ==== Proof.Main.lean ====
/-
  The whole program: @main on the TensorCore deals the two argument arrays and the rows of the array of partial sums
  to the SparseCores' call, takes them back with every row at its tile's lane sums, runs the TensorCore kernel on the
  result, and copies the one number to the program's result.

  `run_main` is the program's run: every thread ends, the three arguments are as they were, the result is the scaled
  total of the lane sums, and every semaphore is at zero.  It is written once, for any interpretation of the floats.
-/
module

public import proofs.«01_k».proof.Proof.Task
public import proofs.«01_k».proof.Proof.Region

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.ShloMosaic.StableHlo (held wp_hlo_within)
open Idealize.ShloMosaic.Pipeline (cells cellsGhost toksInit launchToks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The ghost state at the launch -/

/-- The handshakes' rounds, and the rounds of the TensorCore kernel's two copies. -/
def u₀ : UU := (initOf (K (F := F)).hsCells (K (F := F)).hsToks,
  (initOf (cells (Pipeline.pin (pcfgs (F := F)) adm) cellOf_inj) (launchToks (Pipeline.pin (pcfgs (F := F)) adm) cellOf_inj), 1))

/-- What each device's TensorCore holds of it: the rounds of its kernel's copies. -/
def G (d : Dev nD) : sProp 𝕄 :=
  iprop(cellsGhost (Pipeline.pin (pcfgs (F := F)) adm) EP 0 d ∗ toksInit (Pipeline.pin (pcfgs (F := F)) adm) EP 0 d)

omit [FloatOps F] [Named F] in
/-- Nothing, many times over, is nothing. -/
theorem bigSep_emp' {I : Type} (s : Finset I) : (bigSep s fun _ => iprop(emp)) = (iprop(emp) : sProp 𝕄) := bigSep_emp_const s

/-- The copies' rounds, from the pair they came in. -/
theorem own_rounds (a : UP) : (BI.own (embR (a, (1 : Counters))) : sProp 𝕄) ⊢ BI.own (EP (F := F) a) := by
  unfold EP
  exact (own_pair_emb (embR : Emb (UP × Counters) 𝕄) a (1 : Counters)).trans sep_elim_left

omit [FloatOps F] [Named F] in
/-- Of every device's pipelines, the first. -/
theorem first_pipeline (Φ : Fin 1 → Dev nD → sProp 𝕄) :
    (bigSep Finset.univ fun d : Dev nD => bigSep Finset.univ fun p => Φ p d) ⊢ bigSep Finset.univ fun d : Dev nD => Φ 0 d :=
  bigSep_mono fun _ _ => BI.bigSep_elim (Finset.mem_univ 0)

/-- The launch's ghost state, dealt. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HP := (own_rounds (F := F) _) $$ HR
  imod (Pipeline.fund_ghost (Pipeline.pin (pcfgs (F := F)) adm) (EP (F := F)) cellOf_inj) $$ HP with ⟨Hg, Ht⟩
  imodintro
  isplitl [HH]; · iexact HH
  isplitl [Hg Ht]
  · unfold G
    rw [bigSep_sep' _ (fun d : Dev nD => cellsGhost (Pipeline.pin (pcfgs (F := F)) adm) EP 0 d) (fun d : Dev nD => toksInit (Pipeline.pin (pcfgs (F := F)) adm) EP 0 d)]
    isplitl [Hg]
    · iapply (first_pipeline fun p c => cellsGhost (Pipeline.pin (pcfgs (F := F)) adm) EP p c)
      iexact Hg
    · iapply (first_pipeline fun p c => toksInit (Pipeline.pin (pcfgs (F := F)) adm) EP p c)
      iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What the call takes and hands back -/

omit [FloatOps F] [Named F] in
/-- The TensorCore's arrays. -/
theorem unscopedBufs_eq (d : Dev nD) (W : (b : Ref sig .tc) → Buf (Elt F) ((d.tc : Thread nD τ).loc b)) :
    (unscopedBufs d W : sProp 𝕄) = iprop((yLoc d ↦{fullShare} W main_arg0) ∗ (gLoc d ↦{fullShare} W main_arg1) ∗ (xLoc d ↦{fullShare} W main_arg2)
      ∗ (pLoc d ↦{fullShare} W main_v0) ∗ (sLoc d ↦{fullShare} W main_v1) ∗ (rLoc d ↦{fullShare} W main_v2)) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

omit [FloatOps F] [Named F] in
/-- The array of partial sums is its rows. -/
theorem rows_pts (d : Dev nD) (f : FVec F S32x16 .f32) :
    (pLoc d ↦{fullShare} f : sProp 𝕄) = bigSep Finset.univ fun c : Fin 2 => bigSep Finset.univ fun s : Fin 16 => rowPts d f c s := by
  rw [← bigSep_univ_prod (fun t : Fin 2 × Fin 16 => rowPts d f t.1 t.2)]
  have h := pointsTo_biUnion (Ix := HIx 1) (Val := Elt F) (Name := ℕ) (U := UU) (Lvl := ℕ) (ℓ := pLoc d) (q := fullShare) (f := f) (Finset.univ : Finset (Fin 2 × Fin 16)) (fun t => row t.1 t.2) rows_disjoint
  rw [rows_cover] at h
  exact h

/-- The argument arrays, whole, are the SparseCores' shares of them. -/
theorem args_cores (d : Dev nD) :
    (argPts m d fullShare : sProp 𝕄) = bigSep Finset.univ fun c : Fin 2 => argPts m d (coreShare c) := by
  unfold argPts
  rw [Transfers.pointsTo_deal (ℓ := yLoc d) (Finset.univ : Finset (Fin 2)) Finset.univ_nonempty fullShare,
    Transfers.pointsTo_deal (ℓ := gLoc d) (Finset.univ : Finset (Fin 2)) Finset.univ_nonempty fullShare, bigSep_sep']

/-- Over the two SparseCores, the shares of the arguments and the rows at `f` are the arguments and the array at `f`. -/
theorem cores_eq (d : Dev nD) (f : FVec F S32x16 .f32) :
    (bigSep Finset.univ fun c : Fin 2 => iprop(argPts m d (coreShare c) ∗ bigSep Finset.univ fun s : Fin 16 => rowPts d f c s) : sProp 𝕄)
      = iprop(argPts m d fullShare ∗ (pLoc d ↦{fullShare} f)) := by
  rw [bigSep_sep' _ (fun c : Fin 2 => argPts m d (coreShare c)) (fun c : Fin 2 => bigSep Finset.univ fun s : Fin 16 => rowPts d f c s),
    args_cores, rows_pts]

/-- What the call takes: the arguments and the array of lane sums, whole, as at the launch. -/
theorem st0_eq (d : Dev nD) : (bigSep Finset.univ fun c : Fin ((K (F := F)).nCore 0) => (P m).st 0 d c)
    = iprop(argPts m d fullShare ∗ (pLoc d ↦{fullShare} m (pLoc d))) := cores_eq m d _
/-- What the call gives back: the arguments as they were, and the array at the tiles' lane sums. -/
theorem dn0_eq (d : Dev nD) : (bigSep Finset.univ fun c : Fin ((K (F := F)).nCore 0) => (P m).dn 0 d c)
    = iprop(argPts m d fullShare ∗ (pLoc d ↦{fullShare} parts m d)) := cores_eq m d _

/-! ## The last copy -/

/-- The TensorCore kernel's output, which the last copy reads. -/
abbrev s' : DevRef τ sig := Proc.devRef .tc (main_v1 : Ref sig .tc)
/-- The program's result, which the last copy writes. -/
abbrev r' : DevRef τ sig := Proc.devRef .tc (main_v2 : Ref sig .tc)
/-- The last copy: the 1 × 1 array as a scalar. -/
abbrev opR : HloOp τ sig (Elt F) := StableHlo.reshape main_v1 main_v2 (rfl : (.f32 : EltTy) = .f32) shapeCasts_S1x1_S_
/-- The two buffers of the last copy. -/
abbrev S2 : Finset (DevRef τ sig) := {s', r'}

omit [FloatOps F] [Named F] in
/-- To hold both buffers is to own each of them whole. -/
theorem held_S2 (d : Dev nD) (W : Valuation τ sig (Elt F)) :
    (held (SparseCore.T d) S2 W : sProp 𝕄) = iprop((sLoc d ↦{fullShare} W s') ∗ (rLoc d ↦{fullShare} W r')) := by
  unfold held S2
  rw [SparseCore.bigSep_insert' (by decide), bigSep_singleton]

/-- The launch's contents, but the TensorCore kernel's output at the scaled total. -/
def V1 (d : Dev nD) : Valuation τ sig (Elt F) := Function.update (fun b => m (d, b)) s' (total (parts m d))

/-- There the output is the scaled total. -/
theorem V1_s (d : Dev nD) : V1 m d s' = total (parts m d) := Function.update_self _ _ _
/-- There the result is as at the launch. -/
theorem V1_r (d : Dev nD) : V1 m d r' = m (rLoc d) := Function.update_of_ne (show r' ≠ s' by decide) _ _
/-- The last copy touches these two buffers only. -/
theorem hR : (opR (F := F)).bufs ⊆ S2 := show ({s', r'} : Finset (DevRef τ sig)) ⊆ S2 by decide

/-- The program's result: the scaled total of the lane sums of what the two argument arrays hold at the launch. -/
abbrev answer (d : Dev nD) : FVec F S_ .f32 := fun _ => k1_pay1 (parts m d)

/-- The last copy leaves the scaled total in the program's result. -/
theorem result_r (d : Dev nD) : (opR (F := F)).result (V1 m d) r' = answer m d := by
  refine (StableHlo.reshape_result' _ _ _ _ _).trans ?_
  funext j
  exact congrFun (V1_s m d) _

/-! ## @main on the TensorCore -/

/-- What @main leaves: the three arguments as they were, and the result. -/
abbrev FIN (d : Dev nD) : sProp 𝕄 := iprop((yLoc d ↦{fullShare} m (yLoc d)) ∗ (gLoc d ↦{fullShare} m (gLoc d)) ∗ (xLoc d ↦{fullShare} m (xLoc d))
  ∗ (rLoc d ↦{fullShare} answer m d))

/-- The thread state after the call is "owing nothing" and the rest of it. -/
theorem tcSt_one (d : Dev nD) : ∃ (B : ℕ) (R : sProp 𝕄), (K (F := F)).tcSt EH d 1 = iprop(quiet B d ∗ R) := by
  unfold SparseCore.Cfg.tcSt quiet
  rw [(K (F := F)).Otc_end d (le_refl 1)]
  exact ⟨_, _, rfl⟩

/-- What the TensorCore kernel takes: its input, its output at any contents, and a thread that owes nothing. -/
theorem region_pre (B : ℕ) (f0 : Dev nD → FVec F S32x16 .f32) (f1 : Dev nD → FVec F S1x1 .f32) (d : Dev nD) :
    (region B f0 f1).pre d = iprop(((pLoc d ↦{fullShare} f0 d) ∗ (sLoc d ↦{fullShare} f1 d)) ∗ quiet B d) := rfl
/-- What it gives back: its input as it was, its output at the scaled total, and a thread that owes nothing. -/
theorem region_post (B : ℕ) (f0 : Dev nD → FVec F S32x16 .f32) (f1 : Dev nD → FVec F S1x1 .f32) (d : Dev nD) :
    (region B f0 f1).post d = iprop(((pLoc d ↦{fullShare} f0 d) ∗ (sLoc d ↦{fullShare} total (f0 d))) ∗ quiet B d) := rfl

/-- @main on device `d`'s TensorCore: the SparseCores' call, the TensorCore kernel, the last copy. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨B, R, hst⟩ := tcSt_one (F := F) d
  unfold SparseCore.Cfg.tcRes SparseCore.Cfg.tcEnd G
  rw [unscopedBufs_eq]
  simp only [main, wp_bind, wp_pure]
  iintro ⟨#Hctx, Hst, ⟨Hb, ⟨Hy, Hg, Hx, Hp, Hs, Hr⟩, Hts, -⟩, Hcg, Htk⟩
  iapply ((K (F := F)).wp_run (D (F := F)) 𝒱 (EH := EH) (P := P m) κ d 0) $$ [Hst Hy Hg Hx Hp Hs Hr Hb Hts Hcg Htk]
  isplitr; · iexact Hctx
  isplitl [Hst]; · iexact Hst
  isplitl [Hy Hg Hp]
  · rw [st0_eq]
    isplitl [Hy Hg]
    · isplitl [Hy]; · iexact Hy
      iexact Hg
    · iexact Hp
  iintro ⟨Hst, Hdn⟩
  ihave Hdn' := (Entails.of_eq (dn0_eq m d)) $$ Hdn
  icases Hdn' with ⟨⟨Hy, Hg⟩, Hp⟩
  ihave Hst' := (show (K (F := F)).tcSt EH d ((0 : Fin 1).val + 1) ⊢ iprop(quiet B d ∗ R) from Entails.of_eq hst) $$ Hst
  icases Hst' with ⟨HO, HR⟩
  ihave #Hlev := ((K (F := F)).ctx_levAts (EH := EH) (P := P m) κ) $$ Hctx
  iapply ((K (F := F)).wp_liftProg (D (F := F)) 𝒱 (SparseCore.T d) Set.univ none (.op (.customCall (Pipeline.entry 0) ()) .ret) _)
  iapply (Pipeline.RegionSeg.wp (pcfgs (F := F)) adm (pdats B (fun d => parts m d) (fun d => m (sLoc d))) none cellOf_inj EP defs₀ 𝒱₀ (K (F := F)).L (K (F := F)).lev
    (region B (fun d => parts m d) (fun d => m (sLoc d))) d none (by simp) .ret _)
  isplitr [Hb Hp Hs HO Hcg Htk]
  · rw [region_post]
    iintro ⟨Hb, ⟨⟨Hp, Hs⟩, HO⟩⟩
    rw [wp_ret]; imodintro
    iapply (wp_hlo_within 𝒱 (SparseCore.T d) none Set.univ (op := opR) (S := S2) hR (V := V1 m d)) $$ [Hb Hs Hr]
    · isplitl [Hb]; · iexact Hb
      rw [held_S2, V1_s, V1_r]
      isplitl [Hs]; · iexact Hs
      iexact Hr
    iintro ⟨Hb, Hheld⟩
    ihave Hh := (Entails.of_eq (held_S2 (F := F) d _)) $$ Hheld
    icases Hh with ⟨-, Hr⟩
    rw [result_r, wp_ret]; imodintro; imodintro
    rw [hst]
    isplitl [HO HR]; · isplitl [HO] <;> iassumption
    isplitr [Hb Hts]
    · isplitl [Hy]; · iexact Hy
      isplitl [Hg]; · iexact Hg
      isplitl [Hx]; · iexact Hx
      iexact Hr
    isplitl [Hb] <;> iassumption
  isplitl [Hb]; · iexact Hb
  isplitl [Hp Hs HO]
  · rw [region_pre]
    isplitl [Hp Hs]
    · isplitl [Hp]; · iexact Hp
      iexact Hs
    · iexact HO
  isplitr; · iexact Hlev
  isplitl [Hcg]; · iexact Hcg
  iexact Htk

/-! ## The program's run -/

/-- What a final memory is read to hold: the three arguments as they were, and the result. -/
def fq (d : Dev nD) (s : Phys nD τ sig (Elt F)) : Prop :=
  s.mem.mem (yLoc d) = m (yLoc d) ∧ s.mem.mem (gLoc d) = m (gLoc d) ∧ s.mem.mem (xLoc d) = m (xLoc d) ∧ s.mem.mem (rLoc d) = answer m d

set_option maxRecDepth 16384 in
/-- What @main leaves, read off the machine's final state. -/
theorem hfin (d : Dev nD) (s : Phys nD τ sig (Elt F)) : iprop(FIN m d ∗ SI s) ⊢ (⌜fq m d s⌝ : sProp 𝕄) := by
  iintro ⟨⟨Hy, Hg, Hx, Hr⟩, HSI⟩
  ihave H := (persistent_entails_right (SI_pointsTo_agree (st := s) (ℓ := yLoc d) (I := Finset.univ) (q := fullShare) (f := m (yLoc d)))) $$ [HSI Hy]
  · isplitl [HSI] <;> iassumption
  icases H with ⟨%hy, HSI, -⟩
  ihave H := (persistent_entails_right (SI_pointsTo_agree (st := s) (ℓ := gLoc d) (I := Finset.univ) (q := fullShare) (f := m (gLoc d)))) $$ [HSI Hg]
  · isplitl [HSI] <;> iassumption
  icases H with ⟨%hg, HSI, -⟩
  ihave H := (persistent_entails_right (SI_pointsTo_agree (st := s) (ℓ := xLoc d) (I := Finset.univ) (q := fullShare) (f := m (xLoc d)))) $$ [HSI Hx]
  · isplitl [HSI] <;> iassumption
  icases H with ⟨%hx, HSI, -⟩
  ihave H := (SI_pointsTo_agree (st := s) (ℓ := rLoc d) (I := Finset.univ) (q := fullShare) (f := answer m d)) $$ [HSI Hr]
  · isplitl [HSI] <;> iassumption
  icases H with %hr
  ipureintro
  exact ⟨funext fun i => hy i (Finset.mem_univ i), funext fun i => hg i (Finset.mem_univ i), funext fun i => hx i (Finset.mem_univ i),
    funext fun i => hr i (Finset.mem_univ i)⟩

/-- What every run ends in: on every device the arguments as they were and the result; every semaphore at zero. -/
def QC : PUnit × MemSt nD τ sig (Elt F) → Prop := fun r =>
  (∀ d : Dev nD, r.2.mem (yLoc d) = m (yLoc d) ∧ r.2.mem (gLoc d) = m (gLoc d) ∧ r.2.mem (xLoc d) = m (xLoc d) ∧ r.2.mem (rLoc d) = answer m d)
    ∧ r.2.sem = fun _ => 0

/-- The program's run, from any memory with every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof

end
-- ==== Proof.Frames.lean ====
/-
  The programs' frames: each program, from any memory with every semaphore at zero, runs to its end without a fault,
  leaves its three arguments as they were and every semaphore at zero.

  The kernel and its idealization are one text, but for the constant that the idealization names; read at the machine's
  floats with the name standing for the constant's own pattern, the idealization IS the kernel, and the one run
  `run_main` serves both.
-/
module

public import proofs.«01_k».proof.Proof.Main
public import proofs.«01_k».proof.Proof.Gen.Kernel
public import proofs.«01_k».proof.Proof.Gen.ReferenceIdeal.Run
public import proofs.«01_k».proof.Proof.Gen.Pre_in_range
public import Idealize.ShloMosaic.Adequacy
public import Idealize.ShloMosaic.Init

@[expose] public section

noncomputable section

namespace Cert.Proof

open Idealize.ShloMosaic Idealize.SL.Sem

/-- At the machine's floats a named constant is the constant's own pattern. -/
local instance namedBits : Named Bits where
  named _ _ {φ} b := Scalar.ofBits φ b

/-- At those floats the two programs' kernels are the same functions: their body tables agree label by label. -/
theorem bodies_eq : Cert.Kernel.defs₀ (F := Bits) = Cert.KernelIdeal.defs₀ (F := Bits) := by
  funext p ℓ a
  fin_cases ℓ
  · cases p <;> rfl
  · cases p <;> rfl

/-- So do the whole tables, with the launch's and the pipeline's own bodies. -/
theorem tables_eq : Cert.Kernel.defs (F := Bits) = Cert.KernelIdeal.defs (F := Bits) :=
  congrArg (fun D => SparseCore.Cfg.defs (Cert.Kernel.sc (F := Bits)) (Pipeline.defs (Cert.Kernel.pcfgs (F := Bits)) D)) bodies_eq

/-- And the threads. -/
theorem threads_eq : Cert.Kernel.threads (F := Bits) = Cert.KernelIdeal.threads (F := Bits) := rfl

/-- The idealization's text at the machine's floats: the arguments unchanged and every semaphore at zero. -/
theorem ideal_text (m : (ℓ : Loc Cert.KernelIdeal.nD Cert.KernelIdeal.τ Cert.KernelIdeal.sig) → Buf (Elt Bits) ℓ)
    (ρ : Dev Cert.KernelIdeal.nD → PrngReg) :
    θ_run (Cert.KernelIdeal.defs (F := Bits)) (Cert.KernelIdeal.threads (F := Bits)) ⟨m, fun _ => 0, ρ⟩ (fun r =>
      (∀ d, r.2.mem (yLoc d) = m (yLoc d) ∧ r.2.mem (gLoc d) = m (gLoc d) ∧ r.2.mem (xLoc d) = m (xLoc d))
      ∧ r.2.sem = fun _ => 0) :=
  (θ_run Cert.KernelIdeal.defs _ _).mono (fun _ h => ⟨fun c => ⟨(h.1 c).1, (h.1 c).2.1, (h.1 c).2.2.1⟩, h.2⟩)
    (run_main (F := Bits) m ρ)

/-- The kernel at the machine's floats. -/
theorem frame_kernel : Cert.quiescent_Kernel := by
  intro m ρ _
  rw [tables_eq]
  exact ideal_text m ρ

/-- Its idealization over the extended reals. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (run_main (F := Ideal) m ρ)

/-- The same, from memories whose indices are in range. -/
theorem frame_ideal_in_range : Cert.quiescent_KernelIdeal_pre_in_range := fun m ρ _ =>
  (θ_run Cert.KernelIdeal.defs _ _).mono (fun _ h => ⟨fun c => ⟨(h.1 c).1, (h.1 c).2.1, (h.1 c).2.2.1⟩, h.2⟩) (run_main (F := Ideal) m ρ)

/-- The reference over the extended reals; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, from memories whose indices are in range. -/
theorem frame_reference_in_range : Cert.quiescent_ReferenceIdeal_pre_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one change that the idealization makes is the rule's: the constant named `recip` is 1/100000. -/
theorem preserves : Cert.preserves_Kernel_KernelIdeal := by
  refine ⟨rfl, fun s => IdealRules.named_const.ideal_named _ _ _ _ rfl, IdealRules.named_const.ideal_named_scalar _ _ _ _ rfl⟩

end Cert.Proof

end
-- ==== Proof.KernelSum.lean ====
/-
The kernel's answer over the extended reals: the sum of the squared differences of the two argument arrays over all
their 6400000 positions, times 1/100000.

The sums are written over natural numbers: `sqAt y g n` is the squared difference at position `n`.  A tile's lane sum is
the sum over its slabs and trips, the 32 × 16 array's entries add up to the sum over rows, lanes, slabs and trips, and
those are the positions, each once.
-/
module

public import proofs.«01_k».proof.Proof.Main
public import Idealize.ShloMosaic.PureOps.Ideal.Laws
public import Idealize.ShloMosaic.Lib.Pipeline.Value
public import Idealize.ShloMosaic.Lib.Pipeline.ValueKit.Acc

@[expose] public section

noncomputable section

namespace Cert.Proof

open Cert.KernelIdeal Cert.KernelIdeal.Gen
open Idealize.ShloMosaic
open Finset (range)

/-! ## The loops -/

/-- The outer loop makes ten trips. -/
theorem trips_outer : k0_t1_loop.trips = 10 := by decide +kernel

/-- The inner loop makes 1250 trips. -/
theorem trips_inner : k0_t2_loop.trips = 1250 := by decide +kernel

/-- The squared difference at position `n`, zero past the arrays' end. -/
def sqAt (y g : FVec Ideal S6400000 .f32) (n : ℕ) : EReal :=
  if h : n < 6400000 then (y (fun | 0 => ⟨n, h⟩) - g (fun | 0 => ⟨n, h⟩)) * (y (fun | 0 => ⟨n, h⟩) - g (fun | 0 => ⟨n, h⟩)) else 0

/-- At an index of the arrays it is the squared difference there. -/
theorem sqAt_idx (y g : FVec Ideal S6400000 .f32) (x : S6400000.Idx) :
    sqAt y g (x 0).val = (y x - g x) * (y x - g x) := by
  have hx : (fun | 0 => ⟨(x 0).val, (x 0).isLt⟩ : S6400000.Idx) = x := by
    funext a
    match a with
    | 0 => rfl
  unfold sqAt
  rw [dif_pos (show (x 0).val < 6400000 from (x 0).isLt)]
  exact congrArg (fun z : S6400000.Idx => (y z - g z) * (y z - g z)) hx

/-- One trip at a lane: the sum so far plus the squared difference of what was loaded. -/
theorem pay2_apply (acc a b : FVec Ideal S16 .f32) (j : S16.Idx) :
    k0_pay2 acc a b j = (acc j + (a j - b j) * (a j - b j) : EReal) := by
  unfold k0_pay2
  simp only [shapeCast_self]
  rfl

/-- Before any trip each lane's sum is zero. -/
theorem pay1_apply (j : S16.Idx) : (k0_pay1 (F := Ideal)) j = (0 : EReal) :=
  Ideal.ofBits_zero_f32

/-- The lane sums are written as they are. -/
theorem pay3_apply (v : FVec Ideal S16 .f32) : k0_pay3 v = v := by
  unfold k0_pay3
  simp only [shapeCast_self]

/-- After `n` trips over two slabs whose squared difference at position `i` is `q i`, a lane has gained the sum of
    `q` at its positions in those trips. -/
theorem slabLoop_apply (y g : FVec Ideal S20000 .f32) (q : ℕ → EReal)
    (hq : ∀ i : S20000.Idx, ((y i - g i) * (y i - g i) : EReal) = q (i 0).val) (a : FVec Ideal S16 .f32) (j : S16.Idx) :
    ∀ n, n ≤ k0_t2_loop.trips → slabLoop y g a n j = (a j + ∑ t ∈ range n, q (16 * t + (j 0).val) : EReal)
  | 0, _ => by rw [slabLoop_zero, Finset.sum_range_zero, add_zero]
  | n + 1, h => by
    have ih := slabLoop_apply y g q hq a j n (by omega)
    have hs := slabLoop_succ y g a ⟨n, h⟩
    have hi := hq ((Rect.unit (s := S20000) (k0_off2 ⟨n, h⟩) S16.size (k0_off2_inb ⟨n, h⟩)).emb j)
    have hp : ((Rect.unit (s := S20000) (k0_off2 ⟨n, h⟩) S16.size (k0_off2_inb ⟨n, h⟩)).emb j 0).val = 16 * n + (j 0).val := by
      rw [Rect.emb_apply]
      show k0_off2 ⟨n, h⟩ 0 + 1 * (j 0).val = _
      rw [k0_off2_eq]; simp
    rw [hp] at hi
    rw [show slabLoop y g a (n + 1) = _ from hs, pay2_apply, ih, Finset.sum_range_succ, ← add_assoc, ← hi]
    rfl

/-- After `n` slabs a lane of tile `L` holds the sum of the squared differences at its positions in those slabs. -/
theorem tileLoop_apply (y g : FVec Ideal S6400000 .f32) (L : grid0.Coords) (j : S16.Idx) :
    ∀ n, n ≤ k0_t1_loop.trips → tileLoop y g L n j
      = (∑ k ∈ range n, ∑ t ∈ range 1250, sqAt y g (200000 * (2 * (L 1).val + (L 0).val) + (20000 * k + (16 * t + (j 0).val))) : EReal)
  | 0, _ => by rw [tileLoop_zero, Finset.sum_range_zero, pay1_apply]
  | n + 1, h => by
    have ih := tileLoop_apply y g L j n (by omega)
    have hs := tileLoop_succ y g L ⟨n, h⟩
    have hq : ∀ i : S20000.Idx, (((yslab L ⟨n, h⟩).view.read (Elt Ideal) y i - (gslab L ⟨n, h⟩).view.read (Elt Ideal) g i)
          * ((yslab L ⟨n, h⟩).view.read (Elt Ideal) y i - (gslab L ⟨n, h⟩).view.read (Elt Ideal) g i) : EReal)
        = sqAt y g (200000 * (2 * (L 1).val + (L 0).val) + (20000 * n + (i 0).val)) := by
      intro i
      have hp : ((Rect.unit (s := S6400000) (k0_off1 L ⟨n, h⟩) S20000.size (k0_off1_inb L ⟨n, h⟩)).emb i 0).val
          = 200000 * (2 * (L 1).val + (L 0).val) + (20000 * n + (i 0).val) := by
        rw [Rect.emb_apply]
        show k0_off1 L ⟨n, h⟩ 0 + 1 * (i 0).val = _
        rw [k0_off1_eq]
        show 400000 * (L 1).val + 200000 * (L 0).val + 20000 * n + 1 * (i 0).val = _
        omega
      rw [← hp]
      exact (sqAt_idx y g ((Rect.unit (s := S6400000) (k0_off1 L ⟨n, h⟩) S20000.size (k0_off1_inb L ⟨n, h⟩)).emb i)).symm
    have e := slabLoop_apply _ _ (fun i => sqAt y g (200000 * (2 * (L 1).val + (L 0).val) + (20000 * n + i))) hq
      (tileLoop y g L n) j k0_t2_loop.trips le_rfl
    rw [show tileLoop y g L (n + 1) = _ from hs, e, ih, Finset.sum_range_succ, trips_inner]

/-! ## The 32 × 16 array, and the answer -/

/-- An entry of the array of partial sums. -/
theorem partsOf_apply (y g : FVec Ideal S6400000 .f32) (x : S32x16.Idx) :
    partsOf y g x
      = (∑ k ∈ range 10, ∑ t ∈ range 1250, sqAt y g (200000 * (x 0).val + (20000 * k + (16 * t + (x 1).val))) : EReal) := by
  have e : partsOf y g x = _ := congrFun (pay3_apply _) _
  rw [e, tileLoop_apply _ _ _ _ _ le_rfl, trips_outer]
  refine Finset.sum_congr rfl fun k _ => Finset.sum_congr rfl fun t _ => ?_
  congr 1
  show 200000 * (2 * ((x 0).val / 2) + (x 0).val % 2) + (20000 * k + (16 * t + (x 1).val)) = _
  omega

/-- A range of `a * b` numbers is `a` stretches of `b`. -/
theorem sum_stretches (a b : ℕ) (f : ℕ → EReal) : ∑ n ∈ range (a * b), f n = ∑ i ∈ range a, ∑ j ∈ range b, f (b * i + j) := by
  induction a with
  | zero => simp
  | succ a ih => rw [Nat.succ_mul, Finset.sum_range_add, ih, Finset.sum_range_succ, Nat.mul_comm a b]

/-- Rows, slabs, trips and lanes are the positions. -/
theorem sum_positions (f : ℕ → EReal) :
    ∑ r ∈ range 32, ∑ j ∈ range 16, ∑ k ∈ range 10, ∑ t ∈ range 1250, f (200000 * r + (20000 * k + (16 * t + j)))
      = ∑ n ∈ range 6400000, f n := by
  rw [show 6400000 = 32 * 200000 from rfl, sum_stretches 32 200000]
  refine Finset.sum_congr rfl fun r _ => ?_
  rw [show 200000 = 10 * 20000 from rfl, sum_stretches 10 20000, Finset.sum_comm]
  refine Finset.sum_congr rfl fun k _ => ?_
  rw [show 20000 = 1250 * 16 from rfl, sum_stretches 1250 16, Finset.sum_comm]

/-- The entries of the array of partial sums add up to the sum over all positions. -/
theorem sum_parts (y g : FVec Ideal S6400000 .f32) :
    (∑ x : S32x16.Idx, partsOf y g x : EReal) = ∑ n ∈ range 6400000, sqAt y g n := by
  rw [Finset.sum_congr rfl fun x _ => partsOf_apply y g x]
  rw [show (∑ x : S32x16.Idx, ∑ k ∈ range 10, ∑ t ∈ range 1250, sqAt y g (200000 * (x 0).val + (20000 * k + (16 * t + (x 1).val))))
      = ∑ r ∈ range 32, ∑ j ∈ range 16, ∑ k ∈ range 10, ∑ t ∈ range 1250, sqAt y g (200000 * r + (20000 * k + (16 * t + j)))
    from Fin.sum_idx2_range ![32, 16] fun r j => ∑ k ∈ range 10, ∑ t ∈ range 1250, sqAt y g (200000 * r + (20000 * k + (16 * t + j)))]
  exact sum_positions (sqAt y g)

/-- The second kernel: the sum of the array's entries times 1/100000. -/
theorem pay1_total (f : FVec Ideal S32x16 .f32) :
    k1_pay1 f = ((∑ x : S32x16.Idx, f x) * ((100000⁻¹ : ℝ) : EReal) : EReal) := by
  have hs : ∀ j : S1.Idx, multiReduction (F := Ideal) (φ := .f32) .add [1, 2] S1
      (shapeCast S1x32x16 (shapeCast S32x16 f shapeCasts_S32x16_S32x16) shapeCasts_S32x16_S1x32x16) 0x00000000#32
      reduces_S1x32x16_S1 (.inl rfl) rfl j = (∑ x : S32x16.Idx, f x : EReal) := by
    intro j
    refine (Ideal.multiReduction_add_total _ _ reduces_S1x32x16_S1 (show ∀ b : Fin 1, S1.size b = 1 by decide) _ _ j).trans ?_
    rw [shapeCast_self]
    exact Equiv.sum_comp (Shape.reshapeEquiv shapeCasts_S32x16_S1x32x16) f
  have e : k1_pay1 f = (multiReduction (F := Ideal) (φ := .f32) .add [1, 2] S1
      (shapeCast S1x32x16 (shapeCast S32x16 f shapeCasts_S32x16_S32x16) shapeCasts_S32x16_S1x32x16) 0x00000000#32
      reduces_S1x32x16_S1 (.inl rfl) rfl (Shape.reshapeEquiv shapeCasts_S1_S1x1x1 (fun a => ⟨![0, 0, 0] a, inpos_S1x1x1_p0_0_0 a⟩))
        * ((100000⁻¹ : ℝ) : EReal) : EReal) := rfl
  rw [e, hs]

end Cert.Proof

end
-- ==== Proof.ReferenceSum.lean ====
/-
The reference's answer over the extended reals, when every index names a mixture: the sum of the squared differences
over all positions, times 1/100000.

The scatter adds each position's squared difference to the mixture that the position's index names; with every index in
range nothing is dropped, so the mixtures' sums add up to the sum over all positions.
-/
module

public import proofs.«01_k».proof.Defs
public import proofs.«01_k».proof.Proof.Gen.ReferenceIdeal
public import proofs.«01_k».proof.Proof.Gen.ReferenceIdeal.Run
public import proofs.«01_k».proof.Proof.Gen.Pre_in_range
public import Idealize.ShloMosaic.PureOps.Ideal.Laws
public import Idealize.ShloMosaic.Lib.ReduceAll

@[expose] public section

noncomputable section

namespace Cert.Proof

open Cert.ReferenceIdeal Cert.ReferenceIdeal.Gen
open Idealize.ShloMosaic

/-- The precondition: every index lies between 0 and 99999. -/
theorem in_range_of_pre (y g : FVec Ideal S6400000 .f32) (x : IVec S6400000 32)
    (h : Cert.Pre_in_range.fn (F := Ideal) y g x = fun _ => 1#1) (i : S6400000.Idx) :
    0 ≤ (x i).toInt ∧ (x i).toInt < 100000 := by
  have key : ∀ v : BitVec 32, IntOp.andi (IntOp.cmpi .sge v 0#32) (IntOp.cmpi .slt v 100000#32) = 1#1 →
      0 ≤ v.toInt ∧ v.toInt < 100000 := by
    intro v e
    obtain ⟨e1, e2⟩ := IntOp.andi_eq_one.1 e
    have b1 : ∀ p : Bool, BitVec.ofBool p = 1#1 → p = true := by decide
    have l : (0#32).sle v = true := b1 _ e1
    have u : v.slt 100000#32 = true := b1 _ e2
    rw [BitVec.sle_eq_decide, decide_eq_true_eq] at l
    rw [BitVec.slt_eq_decide, decide_eq_true_eq] at u
    exact ⟨l, u⟩
  haveI : Subsingleton Cert.Pre_in_range.S_.Idx := ⟨fun a b => funext fun k => k.elim0⟩
  have e := congrFun h (Shape.Idx.first Cert.Pre_in_range.Facts.h_S_)
  exact key (x i) (Host.reduce_andi_all _ _ _ _ _ e i)

/-- Every update lands at some element, when every index is in range. -/
theorem lands (idx : IVec S6400000x1 32) (h : ∀ p, 0 ≤ (idx p).toInt ∧ (idx p).toInt < 100000) (j : S6400000.Idx) :
    ∃ i, scatter_S100000_S6400000x1_S6400000_n_0_0_1.resultIdx? j idx = some i := by
  unfold ScatterDims.resultIdx?
  rw [dif_pos]
  · exact ⟨_, rfl⟩
  · intro a
    have hw : scatter_S100000_S6400000x1_S6400000_n_0_0_1.window j a = 0 := by
      unfold ScatterDims.window
      rw [dif_neg]
      match a with
      | 0 => decide
    have hs : 0 ≤ scatter_S100000_S6400000x1_S6400000_n_0_0_1.start j idx a
        ∧ scatter_S100000_S6400000x1_S6400000_n_0_0_1.start j idx a < 100000 := by
      unfold ScatterDims.start
      rw [dif_pos (match a with | 0 => List.mem_singleton.2 rfl)]
      exact h _
    have hz : (S100000.size a : Int) = 100000 := match a with | 0 => rfl
    rw [hw, hz]
    simpa using hs

/-- Then the scatter's elements, from zeros, add up to the sum of the updates. -/
theorem sum_scatter (idx : IVec S6400000x1 32) (h : ∀ p, 0 ≤ (idx p).toInt ∧ (idx p).toInt < 100000)
    (x : S100000.Idx → EReal) (hx : ∀ i, x i = 0) (u : S6400000.Idx → EReal) :
    ∑ i, Ideal.hostScatterAdd scatter_S100000_S6400000x1_S6400000_n_0_0_1 x idx u i = ∑ j, u j := by
  unfold Ideal.hostScatterAdd
  simp only [hx, zero_add, Finset.sum_filter]
  rw [Finset.sum_comm]
  refine Finset.sum_congr rfl fun j _ => ?_
  obtain ⟨i, hi⟩ := lands idx h j
  simp only [hi, Option.some.injEq]
  rw [Finset.sum_ite_eq Finset.univ i]
  exact if_pos (Finset.mem_univ i)

section Read
variable {s si u t r : Shape}

/-- The scatter over the extended reals is the exact one. -/
theorem scatter_ideal (d : ScatterDims s si u) (x : FVec Ideal s .f32) (idx : IVec si 32) (v : FVec Ideal u .f32) :
    Host.scatterAdd d x idx v = Ideal.hostScatterAdd d x idx v := rfl

/-- The sum to one number, from zero, is the exact one. -/
theorem reduce_ideal {axes : List (Fin s.rank)} (x : FVec Ideal s .f32) (init : r.Idx → Ideal .f32) (h : s.ReducesTo axes t)
    (hr : 0 < r.numel) (ht : ∀ b, t.size b = 1) (hi : ∀ k, init k = (0 : EReal)) (j : t.Idx) :
    Host.reduceAdd x init h hr j = (∑ i : s.Idx, x i : EReal) := by
  refine (Ideal.hostReduceAdd_total h ht x (init (Shape.Idx.first hr)) j).trans ?_
  rw [hi, zero_add]

/-- The division is the exact one, element by element. -/
theorem div_ideal (a b : FVec Ideal s .f32) (j : s.Idx) : Host.divf a b j = Ideal.div (a j) (b j) := rfl

/-- The squared differences, element by element. -/
theorem sq_ideal (a b : FVec Ideal s .f32) : mulf (subf a b) (subf a b) = fun i => ((a i - b i) * (a i - b i) : EReal) := rfl

/-- A constant array's element. -/
theorem const_ideal (w : BitVec 32) (j : s.Idx) : constant (F := Ideal) s .f32 w j = Ideal.ofBits .f32 w := rfl

end Read

/-- The number of mixtures, as the reference's constant spells it. -/
theorem mixtures : Ideal.ofBits .f32 0x47C35000#32 = ((100000 : ℝ) : EReal) := by
  simp [Ideal.ofBits, Ideal.ieee, -EReal.coe_mul]; norm_num

/-- The reference's value on in-range indices. -/
theorem reference_total (y g : FVec Ideal S6400000 .f32) (x : IVec S6400000 32)
    (h : ∀ i, 0 ≤ (x i).toInt ∧ (x i).toInt < 100000) :
    Host.divf (Host.reduceAdd (Host.scatterAdd scatter_S100000_S6400000x1_S6400000_n_0_0_1
        (broadcastInDim S100000 ![] bcast_S_S100000 (constant (F := Ideal) S_ .f32 0x00000000#32))
        (broadcastInDim S6400000x1 ![0] bcast_S6400000_S6400000x1_0 x) (mulf (subf y g) (subf y g)))
        (constant (F := Ideal) S_ .f32 0x00000000#32) reducesTo_S100000_S_d0 h_S_) (constant (F := Ideal) S_ .f32 0x47C35000#32)
      = fun _ => ((∑ i : S6400000.Idx, (y i - g i) * (y i - g i)) * ((100000⁻¹ : ℝ) : EReal) : EReal) := by
  have hx : ∀ i, broadcastInDim S100000 ![] bcast_S_S100000 (constant (F := Ideal) S_ .f32 0x00000000#32) i = (0 : EReal) :=
    fun _ => Ideal.ofBits_zero_f32
  have hp : ∀ p, 0 ≤ (broadcastInDim S6400000x1 ![0] bcast_S6400000_S6400000x1_0 x p).toInt
      ∧ (broadcastInDim S6400000x1 ![0] bcast_S6400000_S6400000x1_0 x p).toInt < 100000 := fun p => h _
  funext j
  rw [div_ideal, const_ideal, mixtures, reduce_ideal _ _ _ _ (fun b => b.elim0) (fun k => (const_ideal _ k).trans Ideal.ofBits_zero_f32),
    scatter_ideal, sq_ideal, sum_scatter _ hp _ hx,
    Ideal.div_coe (by norm_num), one_div]

end Cert.Proof

end
-- ==== Proof.Algebraic.lean ====
/-
The kernel and the reference, over the extended reals, from arguments that agree and whose indices are in range, end with
the same result: the sum of the squared differences over all positions, times 1/100000.
-/
module

public import proofs.«01_k».proof.Proof.KernelSum
public import proofs.«01_k».proof.Proof.ReferenceSum

@[expose] public section

noncomputable section

namespace Cert.Proof

open Idealize.ShloMosaic Idealize.SL.Sem

/-- The sum over the arrays' indices is the sum over positions. -/
theorem sum_sq (y g : FVec Ideal Cert.KernelIdeal.S6400000 .f32) :
    (∑ i : Cert.KernelIdeal.S6400000.Idx, (y i - g i) * (y i - g i) : EReal) = ∑ n ∈ Finset.range 6400000, sqAt y g n :=
  (Finset.sum_congr rfl fun i _ => (sqAt_idx y g i).symm).trans (Fin.sum_idx1_range ![6400000] (sqAt y g))

/-- The kernel's answer is the sum of the squared differences over all positions, times 1/100000. -/
theorem answer_total (m : (ℓ : Loc Cert.KernelIdeal.nD Cert.KernelIdeal.τ Cert.KernelIdeal.sig) → Buf (Elt Ideal) ℓ)
    (d : Dev Cert.KernelIdeal.nD) (y g : FVec Ideal Cert.KernelIdeal.S6400000 .f32) (hy : m (yLoc d) = y) (hg : m (gLoc d) = g) :
    answer m d = fun _ => ((∑ i : Cert.KernelIdeal.S6400000.Idx, (y i - g i) * (y i - g i)) * ((100000⁻¹ : ℝ) : EReal) : EReal) := by
  subst hy hg
  funext j
  refine (pay1_total (partsOf (m (yLoc d)) (m (gLoc d)))).trans ?_
  rw [sum_parts, sum_sq]

/-- The value claim: one result, equal in both programs, and the arguments unchanged in both. -/
theorem algebraic : Cert.algebraic_KernelIdeal_ReferenceIdeal_pre_in_range := by
  intro m g m' g' hpre hargs
  refine ⟨fun c => answer m c, ?_, ?_⟩
  · exact (θ_run Cert.KernelIdeal.defs _ _).mono
      (fun _ h c => ⟨(h.1 c).2.2.2, (h.1 c).1, (h.1 c).2.1, (h.1 c).2.2.1⟩) (run_main (F := Ideal) m g)
  · refine (θ_run Cert.ReferenceIdeal.defs _ _).mono (fun r h c => ⟨(h c).1.trans ?_, (h c).2⟩)
      (Cert.ReferenceIdeal.Value.run (F := Ideal) m' g')
    obtain ⟨e0, e1, e2⟩ := hargs c
    have hx := in_range_of_pre _ _ _ (hpre c)
    rw [e0, e1, e2]
    exact (reference_total _ _ _ hx).trans (answer_total m c _ _ rfl rfl).symm

end Cert.Proof

end
-- ==== Proof.lean ====
/-
The proof of the certificate's claims: the three programs' frames, the kernel's without and with the precondition, that
the idealization changes the kernel by its rule alone, and that the kernel and the reference compute one value.
The modules, in the order they build on each other: Setup, Tile, Rows, Task, Region, Main (the kernel's run); Frames;
KernelSum, ReferenceSum, Algebraic (the value).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Algebraic

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_in_range.Gen.facts,
    frame_kernel, frame_ideal, frame_ideal_in_range, frame_reference, frame_reference_in_range, preserves, algebraic⟩

end Cert.Proof

end
